-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S10000x128 : Shape := ⟨2, ![10000, 128]⟩
abbrev S10000x3 : Shape := ⟨2, ![10000, 3]⟩
abbrev S10000x32 : Shape := ⟨2, ![10000, 32]⟩
abbrev S15x3 : Shape := ⟨2, ![15, 3]⟩
abbrev S15x128x128 : Shape := ⟨3, ![15, 128, 128]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel

variable [Facts]

def fn {F : FTy → Type} [FloatOps F] (main_arg0 : IVec S10000x128 32) (main_arg1 : FVec F S10000x3 .f32) (main_arg2 : IVec S10000x32 32) (main_arg3 : FVec F S15x3 .f32) (main_arg4 : FVec F S15x128x128 .f32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg2 main_v0
  let main_c_0 : IVec S_ 32 := constantI S_ 32 10000#32
  let main_v2 : IVec S10000x32 32 := broadcastInDim S10000x32 ![] bcast_S_S10000x32 main_c_0
  let main_v3 : IVec S10000x32 1 := cmpi .slt main_arg2 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  main_v5
-- ==== Pre_in_range_finite.lean ====
abbrev S10000x128 : Shape := ⟨2, ![10000, 128]⟩
abbrev S10000x3 : Shape := ⟨2, ![10000, 3]⟩
abbrev S10000x32 : Shape := ⟨2, ![10000, 32]⟩
abbrev S15x3 : Shape := ⟨2, ![15, 3]⟩
abbrev S15x128x128 : Shape := ⟨3, ![15, 128, 128]⟩
abbrev S_ : Shape := ⟨0, ![]⟩
abbrev S10000x6 : Shape := ⟨2, ![10000, 6]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S10000x128 : S_.BroadcastsInDim S10000x128 (![] : Fin 0 → Fin S10000x128.rank)
  natLt_16_32 : 16 < 32
  bitsLt_bf16_f32 : FTy.bits .bf16 < FTy.bits .f32
  reducesTo_S10000x128_S_d0_1 : S10000x128.ReducesTo [0, 1] S_
  slices_S10000x128_S10000x6_0_0 : S10000x128.Slices ![0, 0] S10000x6
  bcast_S_S10000x6 : S_.BroadcastsInDim S10000x6 (![] : Fin 0 → Fin S10000x6.rank)
  reducesTo_S10000x6_S_d0_1 : S10000x6.ReducesTo [0, 1] S_
  bcast_S_S10000x3 : S_.BroadcastsInDim S10000x3 (![] : Fin 0 → Fin S10000x3.rank)
  reducesTo_S10000x3_S_d0_1 : S10000x3.ReducesTo [0, 1] S_
  bcast_S_S15x3 : S_.BroadcastsInDim S15x3 (![] : Fin 0 → Fin S15x3.rank)
  reducesTo_S15x3_S_d0_1 : S15x3.ReducesTo [0, 1] S_
  bcast_S_S15x128x128 : S_.BroadcastsInDim S15x128x128 (![] : Fin 0 → Fin S15x128x128.rank)
  reducesTo_S15x128x128_S_d0_1_2 : S15x128x128.ReducesTo [0, 1, 2] S_

variable [Facts]

def fn_part2 {F : FTy → Type} [FloatOps F] (main_v34 : IVec S_ 1) (main_v35 : FVec F S15x128x128 .f32) : IVec S_ 1 :=
  let main_cst_10 : FVec F S_ .f32 := constant S_ .f32 0x7F800000#32
  let main_v36 : FVec F S15x128x128 .f32 := broadcastInDim S15x128x128 ![] bcast_S_S15x128x128 main_cst_10
  let main_v37 : IVec S15x128x128 1 := cmpf .olt main_v35 main_v36
  let main_c_11 : IVec S_ 1 := constantI S_ 1 1#1
  let main_v38 : IVec S_ 1 := (fun x v => Host.reduce IntOp.andi x v reducesTo_S15x128x128_S_d0_1_2 h_S_) main_v37 main_c_11
  let main_v39 : IVec S_ 1 := andi main_v34 main_v38
  main_v39

def fn_part1 {F : FTy → Type} [FloatOps F] (main_arg1 : FVec F S10000x3 .f32) (main_arg3 : FVec F S15x3 .f32) (main_arg4 : FVec F S15x128x128 .f32) (main_v15 : IVec S_ 1) (main_v17 : FVec F S10000x128 .bf16) : IVec S_ 1 :=
  let main_v18 : FVec F S10000x128 .f32 := (extf .f32 · bitsLt_bf16_f32) main_v17
  let main_v19 : FVec F S10000x6 .f32 := (extractStridedSlice S10000x6 ![0, 0] · slices_S10000x128_S10000x6_0_0) main_v18
  let main_v20 : FVec F S10000x6 .f32 := Host.absf main_v19
  let main_cst_4 : FVec F S_ .f32 := constant S_ .f32 0x7F800000#32
  let main_v21 : FVec F S10000x6 .f32 := broadcastInDim S10000x6 ![] bcast_S_S10000x6 main_cst_4
  let main_v22 : IVec S10000x6 1 := cmpf .olt main_v20 main_v21
  let main_c_5 : IVec S_ 1 := constantI S_ 1 1#1
  let main_v23 : IVec S_ 1 := (fun x v => Host.reduce IntOp.andi x v reducesTo_S10000x6_S_d0_1 h_S_) main_v22 main_c_5
  let main_v24 : IVec S_ 1 := andi main_v15 main_v23
  let main_v25 : FVec F S10000x3 .f32 := Host.absf main_arg1
  let main_cst_6 : FVec F S_ .f32 := constant S_ .f32 0x7F800000#32
  let main_v26 : FVec F S10000x3 .f32 := broadcastInDim S10000x3 ![] bcast_S_S10000x3 main_cst_6
  let main_v27 : IVec S10000x3 1 := cmpf .olt main_v25 main_v26
  let main_c_7 : IVec S_ 1 := constantI S_ 1 1#1
  let main_v28 : IVec S_ 1 := (fun x v => Host.reduce IntOp.andi x v reducesTo_S10000x3_S_d0_1 h_S_) main_v27 main_c_7
  let main_v29 : IVec S_ 1 := andi main_v24 main_v28
  let main_v30 : FVec F S15x3 .f32 := Host.absf main_arg3
  let main_cst_8 : FVec F S_ .f32 := constant S_ .f32 0x7F800000#32
  let main_v31 : FVec F S15x3 .f32 := broadcastInDim S15x3 ![] bcast_S_S15x3 main_cst_8
  let main_v32 : IVec S15x3 1 := cmpf .olt main_v30 main_v31
  let main_c_9 : IVec S_ 1 := constantI S_ 1 1#1
  let main_v33 : IVec S_ 1 := (fun x v => Host.reduce IntOp.andi x v reducesTo_S15x3_S_d0_1 h_S_) main_v32 main_c_9
  let main_v34 : IVec S_ 1 := andi main_v29 main_v33
  let main_v35 : FVec F S15x128x128 .f32 := Host.absf main_arg4
  fn_part2 (F := F) main_v34 main_v35

def fn {F : FTy → Type} [FloatOps F] (main_arg0 : IVec S10000x128 32) (main_arg1 : FVec F S10000x3 .f32) (main_arg2 : IVec S10000x32 32) (main_arg3 : FVec F S15x3 .f32) (main_arg4 : FVec F S15x128x128 .f32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg2 main_v0
  let main_c_0 : IVec S_ 32 := constantI S_ 32 10000#32
  let main_v2 : IVec S10000x32 32 := broadcastInDim S10000x32 ![] bcast_S_S10000x32 main_c_0
  let main_v3 : IVec S10000x32 1 := cmpi .slt main_arg2 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  let main_c_2 : IVec S_ 32 := constantI S_ 32 16#32
  let main_v6 : IVec S10000x128 32 := broadcastInDim S10000x128 ![] bcast_S_S10000x128 main_c_2
  let main_v7 : IVec S10000x128 32 := Host.shrui main_arg0 main_v6
  let main_v8 : IVec S10000x128 16 := (trunci 16 · natLt_16_32) main_v7
  let main_v9 : FVec F S10000x128 .bf16 := bitcastToFloat .bf16 main_v8
  let main_v10 : FVec F S10000x128 .f32 := (extf .f32 · bitsLt_bf16_f32) main_v9
  let main_v11 : FVec F S10000x128 .f32 := Host.absf main_v10
  let main_cst : FVec F S_ .f32 := constant S_ .f32 0x7F800000#32
  let main_v12 : FVec F S10000x128 .f32 := broadcastInDim S10000x128 ![] bcast_S_S10000x128 main_cst
  let main_v13 : IVec S10000x128 1 := cmpf .olt main_v11 main_v12
  let main_c_3 : IVec S_ 1 := constantI S_ 1 1#1
  let main_v14 : IVec S_ 1 := (fun x v => Host.reduce IntOp.andi x v reducesTo_S10000x128_S_d0_1 h_S_) main_v13 main_c_3
  let main_v15 : IVec S_ 1 := andi main_v5 main_v14
  let main_v16 : IVec S10000x128 16 := (trunci 16 · natLt_16_32) main_arg0
  let main_v17 : FVec F S10000x128 .bf16 := bitcastToFloat .bf16 main_v16
  fn_part1 (F := F) main_arg1 main_arg3 main_arg4 main_v15 main_v17
-- ==== Kernel.lean ====
abbrev S10000x128 : Shape := ⟨2, ![10000, 128]⟩
abbrev S10000x3 : Shape := ⟨2, ![10000, 3]⟩
abbrev S10000x32 : Shape := ⟨2, ![10000, 32]⟩
abbrev S15x3 : Shape := ⟨2, ![15, 3]⟩
abbrev S15x128x128 : Shape := ⟨3, ![15, 128, 128]⟩
abbrev S_ : Shape := ⟨0, ![]⟩
abbrev S10112x16 : Shape := ⟨2, ![10112, 16]⟩
abbrev S10112x32 : Shape := ⟨2, ![10112, 32]⟩
abbrev S323584 : Shape := ⟨1, ![323584]⟩
abbrev S16x16 : Shape := ⟨2, ![16, 16]⟩
abbrev S3x15 : Shape := ⟨2, ![3, 15]⟩
abbrev S1 : Shape := ⟨1, ![1]⟩
abbrev S2 : Shape := ⟨1, ![2]⟩
abbrev S15 : Shape := ⟨1, ![15]⟩
abbrev S15x128x256 : Shape := ⟨3, ![15, 128, 256]⟩
abbrev S323584x128 : Shape := ⟨2, ![323584, 128]⟩
abbrev S128 : Shape := ⟨1, ![128]⟩
abbrev S128x128 : Shape := ⟨2, ![128, 128]⟩
abbrev S10112x128 : Shape := ⟨2, ![10112, 128]⟩
abbrev S4096x128 : Shape := ⟨2, ![4096, 128]⟩
abbrev S128x16 : Shape := ⟨2, ![128, 16]⟩
abbrev S4096x6 : Shape := ⟨2, ![4096, 6]⟩
abbrev S4096x3 : Shape := ⟨2, ![4096, 3]⟩
abbrev S4096x13 : Shape := ⟨2, ![4096, 13]⟩
abbrev S4096x16 : Shape := ⟨2, ![4096, 16]⟩
abbrev S128x32x16 : Shape := ⟨3, ![128, 32, 16]⟩
abbrev S128x1x16 : Shape := ⟨3, ![128, 1, 16]⟩
abbrev S4096 : Shape := ⟨1, ![4096]⟩
abbrev S4096x1 : Shape := ⟨2, ![4096, 1]⟩
abbrev S4096x15 : Shape := ⟨2, ![4096, 15]⟩
abbrev S1x15 : Shape := ⟨2, ![1, 15]⟩
abbrev S128x32x15 : Shape := ⟨3, ![128, 32, 15]⟩
abbrev S128x32x128 : Shape := ⟨3, ![128, 32, 128]⟩
abbrev S128x15x128 : Shape := ⟨3, ![128, 15, 128]⟩
abbrev S128x1x128 : Shape := ⟨3, ![128, 1, 128]⟩
abbrev S1x128x256 : Shape := ⟨3, ![1, 128, 256]⟩
abbrev S128x256 : Shape := ⟨2, ![128, 256]⟩
abbrev S1x128x128 : Shape := ⟨3, ![1, 128, 128]⟩

abbrev nBuf : Table → Nat
  | .hbm => 38
  | .local .tc .vmem => 9
  | .local .scVector .vmem => 2
  | _ => 0

abbrev bufTy : (tb : Table) → Fin (nBuf tb) → BufTy
  | .hbm, ⟨0, _⟩ => ⟨S10000x128, .i32⟩
  | .hbm, ⟨1, _⟩ => ⟨S10000x3, .f32⟩
  | .hbm, ⟨2, _⟩ => ⟨S10000x32, .i32⟩
  | .hbm, ⟨3, _⟩ => ⟨S15x3, .f32⟩
  | .hbm, ⟨4, _⟩ => ⟨S15x128x128, .f32⟩
  | .hbm, ⟨5, _⟩ => ⟨S_, .i32⟩
  | .hbm, ⟨6, _⟩ => ⟨S_, .f32⟩
  | .hbm, ⟨7, _⟩ => ⟨S10112x16, .f32⟩
  | .hbm, ⟨8, _⟩ => ⟨S_, .i32⟩
  | .hbm, ⟨9, _⟩ => ⟨S_, .i32⟩
  | .hbm, ⟨10, _⟩ => ⟨S10112x32, .i32⟩
  | .hbm, ⟨11, _⟩ => ⟨S323584, .i32⟩
  | .hbm, ⟨12, _⟩ => ⟨S_, .f32⟩
  | .hbm, ⟨13, _⟩ => ⟨S16x16, .f32⟩
  | .hbm, ⟨14, _⟩ => ⟨S3x15, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S16x16, .f32⟩
  | .hbm, ⟨21, _⟩ => ⟨S15x3, .f32⟩
  | .hbm, ⟨22, _⟩ => ⟨S_, .f32⟩
  | .hbm, ⟨23, _⟩ => ⟨S15, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S16x16, .f32⟩
  | .hbm, ⟨30, _⟩ => ⟨S15x128x128, .bf16⟩
  | .hbm, ⟨31, _⟩ => ⟨S15x128x128, .f32⟩
  | .hbm, ⟨32, _⟩ => ⟨S15x128x128, .f32⟩
  | .hbm, ⟨33, _⟩ => ⟨S15x128x128, .bf16⟩
  | .hbm, ⟨34, _⟩ => ⟨S15x128x256, .bf16⟩
  | .hbm, ⟨35, _⟩ => ⟨S323584x128, .i32⟩
  | .hbm, ⟨36, _⟩ => ⟨S10112x128, .f32⟩
  | .hbm, ⟨37, _⟩ => ⟨S10000x128, .f32⟩
  | .local .tc .vmem, ⟨0, _⟩ => ⟨S4096x128, .i32⟩
  | .local .tc .vmem, ⟨1, _⟩ => ⟨S4096x128, .i32⟩
  | .local .tc .vmem, ⟨2, _⟩ => ⟨S128x16, .f32⟩
  | .local .tc .vmem, ⟨3, _⟩ => ⟨S128x16, .f32⟩
  | .local .tc .vmem, ⟨4, _⟩ => ⟨S16x16, .f32⟩
  | .local .tc .vmem, ⟨5, _⟩ => ⟨S15x128x256, .bf16⟩
  | .local .tc .vmem, ⟨6, _⟩ => ⟨S15x128x128, .bf16⟩
  | .local .tc .vmem, ⟨7, _⟩ => ⟨S128x128, .f32⟩
  | .local .tc .vmem, ⟨8, _⟩ => ⟨S128x128, .f32⟩
  | .local .scVector .vmem, ⟨0, _⟩ => ⟨S128, .i32⟩
  | .local .scVector .vmem, ⟨1, _⟩ => ⟨S128x128, .i32⟩
  | _, _ => ⟨S10000x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_arg0_scv : Ref sig .scVector := ⟨.hbm, 0, rfl⟩
abbrev main_v2_scv : Ref sig .scVector := ⟨.hbm, 11, rfl⟩
abbrev main_v20_scv : Ref sig .scVector := ⟨.hbm, 35, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c79_i32 : BitVec 32 := 79#32
  let v3 : BitVec 32 := Scalar.addi c0_i32_0 c79_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10112_i32 : BitVec 32 := 10112#32
  let v2 : BitVec 32 := Scalar.muli v1 c10112_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10112_i32 : BitVec 32 := 10112#32
  let v2 : BitVec 32 := Scalar.muli v1 c10112_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S15x128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S15x128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x3 : Shape := ⟨2, ![10000, 3]⟩
abbrev S10000x32 : Shape := ⟨2, ![10000, 32]⟩
abbrev S15x3 : Shape := ⟨2, ![15, 3]⟩
abbrev S15x128x128 : Shape := ⟨3, ![15, 128, 128]⟩
abbrev S_ : Shape := ⟨0, ![]⟩
abbrev S10000x32x1 : Shape := ⟨3, ![10000, 32, 1]⟩
abbrev S10000x32x3 : Shape := ⟨3, ![10000, 32, 3]⟩
abbrev S10000x1x3 : Shape := ⟨3, ![10000, 1, 3]⟩
abbrev S10000x32x1x3 : Shape := ⟨4, ![10000, 32, 1, 3]⟩
abbrev S1x1x15x3 : Shape := ⟨4, ![1, 1, 15, 3]⟩
abbrev S10000x32x15x3 : Shape := ⟨4, ![10000, 32, 15, 3]⟩
abbrev S10000x32x15 : Shape := ⟨3, ![10000, 32, 15]⟩
abbrev S10000x32x128 : Shape := ⟨3, ![10000, 32, 128]⟩
abbrev S10000x15x128 : Shape := ⟨3, ![10000, 15, 128]⟩

abbrev nBuf : Space → Nat
  | .hbm => 61
  | .vmem => 0
  | .smem => 0
  | _ => 0

abbrev bufTy : (tb : Table) → Fin (tcTables nBuf tb) → BufTy
  | .hbm, ⟨0, _⟩ => ⟨S10000x128, .i32⟩
  | .hbm, ⟨1, _⟩ => ⟨S10000x3, .f32⟩
  | .hbm, ⟨2, _⟩ => ⟨S10000x32, .i32⟩
  | .hbm, ⟨3, _⟩ => ⟨S15x3, .f32⟩
  | .hbm, ⟨4, _⟩ => ⟨S15x128x128, .f32⟩
  | .hbm, ⟨5, _⟩ => ⟨S_, .i32⟩
  | .hbm, ⟨6, _⟩ => ⟨S10000x128, .i32⟩
  | .hbm, ⟨7, _⟩ => ⟨S10000x128, .i32⟩
  | .hbm, ⟨8, _⟩ => ⟨S10000x128, .i16⟩
  | .hbm, ⟨9, _⟩ => ⟨S10000x128, .bf16⟩
  | .hbm, ⟨10, _⟩ => ⟨S10000x128, .f32⟩
  | .hbm, ⟨11, _⟩ => ⟨S10000x128, .i16⟩
  | .hbm, ⟨12, _⟩ => ⟨S10000x128, .bf16⟩
  | .hbm, ⟨13, _⟩ => ⟨S10000x128, .f32⟩
  | .hbm, ⟨14, _⟩ => ⟨S10000x3, .f32⟩
  | .hbm, ⟨15, _⟩ => ⟨S10000x3, .f32⟩
  | .hbm, ⟨16, _⟩ => ⟨S10000x3, .f32⟩
  | .hbm, ⟨17, _⟩ => ⟨S_, .i32⟩
  | .hbm, ⟨18, _⟩ => ⟨S10000x32, .i32⟩
  | .hbm, ⟨19, _⟩ => ⟨S10000x32, .i1⟩
  | .hbm, ⟨20, _⟩ => ⟨S_, .i32⟩
  | .hbm, ⟨21, _⟩ => ⟨S10000x32, .i32⟩
  | .hbm, ⟨22, _⟩ => ⟨S10000x32, .i32⟩
  | .hbm, ⟨23, _⟩ => ⟨S10000x32, .i32⟩
  | .hbm, ⟨24, _⟩ => ⟨S10000x32x1, .i32⟩
  | .hbm, ⟨25, _⟩ => ⟨S10000x32x3, .f32⟩
  | .hbm, ⟨26, _⟩ => ⟨S10000x1x3, .f32⟩
  | .hbm, ⟨27, _⟩ => ⟨S10000x32x3, .f32⟩
  | .hbm, ⟨28, _⟩ => ⟨S10000x32x3, .f32⟩
  | .hbm, ⟨29, _⟩ => ⟨S10000x32x1x3, .f32⟩
  | .hbm, ⟨30, _⟩ => ⟨S1x1x15x3, .f32⟩
  | .hbm, ⟨31, _⟩ => ⟨S10000x32x15x3, .f32⟩
  | .hbm, ⟨32, _⟩ => ⟨S10000x32x15x3, .f32⟩
  | .hbm, ⟨33, _⟩ => ⟨S10000x32x15x3, .f32⟩
  | .hbm, ⟨34, _⟩ => ⟨S10000x32x15x3, .f32⟩
  | .hbm, ⟨35, _⟩ => ⟨S_, .f32⟩
  | .hbm, ⟨36, _⟩ => ⟨S10000x32x15, .f32⟩
  | .hbm, ⟨37, _⟩ => ⟨S_, .f32⟩
  | .hbm, ⟨38, _⟩ => ⟨S10000x32x15, .f32⟩
  | .hbm, ⟨39, _⟩ => ⟨S10000x32x15, .f32⟩
  | .hbm, ⟨40, _⟩ => ⟨S10000x32x15, .f32⟩
  | .hbm, ⟨41, _⟩ => ⟨S_, .f32⟩
  | .hbm, ⟨42, _⟩ => ⟨S10000x32x15, .f32⟩
  | .hbm, ⟨43, _⟩ => ⟨S10000x32x15, .f32⟩
  | .hbm, ⟨44, _⟩ => ⟨S_, .f32⟩
  | .hbm, ⟨45, _⟩ => ⟨S10000x32x15, .f32⟩
  | .hbm, ⟨46, _⟩ => ⟨S10000x32x15, .f32⟩
  | .hbm, ⟨47, _⟩ => ⟨S_, .f32⟩
  | .hbm, ⟨48, _⟩ => ⟨S10000x32x15, .f32⟩
  | .hbm, ⟨49, _⟩ => ⟨S10000x32x15, .f32⟩
  | .hbm, ⟨50, _⟩ => ⟨S_, .i32⟩
  | .hbm, ⟨51, _⟩ => ⟨S10000x32, .i32⟩
  | .hbm, ⟨52, _⟩ => ⟨S10000x32, .i1⟩
  | .hbm, ⟨53, _⟩ => ⟨S_, .i32⟩
  | .hbm, ⟨54, _⟩ => ⟨S10000x32, .i32⟩
  | .hbm, ⟨55, _⟩ => ⟨S10000x32, .i32⟩
  | .hbm, ⟨56, _⟩ => ⟨S10000x32, .i32⟩
  | .hbm, ⟨57, _⟩ => ⟨S10000x32x1, .i32⟩
  | .hbm, ⟨58, _⟩ => ⟨S10000x32x128, .f32⟩
  | .hbm, ⟨59, _⟩ => ⟨S10000x15x128, .f32⟩
  | .hbm, ⟨60, _⟩ => ⟨S10000x128, .f32⟩
  | _, _ => ⟨S10000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Range.lean ====
/-
  What the range precondition says of the neighbours' numbers: each is below 10000.
-/
module

public import proofs.«01_k».proof.Proof.Gen.Pre_in_range
public import Idealize.ShloMosaic.Lib.ReduceAll
public import Idealize.ShloMosaic.Lib.Affine

@[expose] public section

noncomputable section

namespace Cert.Proof

open Idealize.ShloMosaic

instance sub_nil : Subsingleton (⟨0, ![]⟩ : Shape).Idx := ⟨fun a b => funext fun i => i.elim0⟩

/-- A word that is at least 0 and less than 10000, both read signed, is below 10000 read unsigned. -/
theorem lt_of_signed (x : BitVec 32)
    (h : IntOp.andi (IntOp.cmpi .sge x 0#32) (IntOp.cmpi .slt x 10000#32) = 1#1) : x.toNat < 10000 := by
  obtain ⟨h1, h2⟩ := IntOp.andi_eq_one.1 h
  have h1' : (0#32 : BitVec 32).sle x = true := by
    have e : BitVec.ofBool ((0#32 : BitVec 32).sle x) = 1#1 := h1
    cases hb : (0#32 : BitVec 32).sle x
    · rw [hb] at e; exact absurd e (by decide)
    · rfl
  have h2' : x.slt 10000#32 = true := by
    have e : BitVec.ofBool (x.slt 10000#32) = 1#1 := h2
    cases hb : x.slt 10000#32
    · rw [hb] at e; exact absurd e (by decide)
    · rfl
  rw [BitVec.sle, decide_eq_true_eq] at h1'
  rw [BitVec.slt, decide_eq_true_eq] at h2'
  have e0 : (0#32 : BitVec 32).toInt = 0 := by decide
  have e1 : (10000#32 : BitVec 32).toInt = 10000 := by decide
  rw [e0] at h1'
  rw [e1] at h2'
  rw [BitVec.toInt_eq_toNat_cond] at h1' h2'
  split_ifs at h1' h2' <;> omega

/-- The first precondition, read: the numbers are in range. -/
theorem pre_range {F : FTy → Type} [FloatOps F] (a0 : IVec Cert.Pre_in_range.S10000x128 32) (a1 : FVec F Cert.Pre_in_range.S10000x3 .f32)
    (a2 : IVec Cert.Pre_in_range.S10000x32 32) (a3 : FVec F Cert.Pre_in_range.S15x3 .f32) (a4 : FVec F Cert.Pre_in_range.S15x128x128 .f32)
    (h : Cert.Pre_in_range.fn (F := F) a0 a1 a2 a3 a4 = fun _ => 1#1) (j : Cert.Pre_in_range.S10000x32.Idx) : (a2 j).toNat < 10000 :=
  lt_of_signed _ (Host.reduce_andi_all _ _ _ _ (fun i => i.elim0) (congrFun h _) j)

end Cert.Proof

end
-- ==== Proof.Halves.lean ====
/-
  A word holds two 16-bit numbers. What each denotes over the reals, and that a 32-bit number whose upper half is a 16-bit
  number's pattern and whose lower half is zero denotes that same number.
-/
module

public import Idealize.ShloMosaic.PureOps.Ideal

@[expose] public section

noncomputable section

namespace Cert.Proof

open Idealize.ShloMosaic

/-- The value of a word's high half, and of its low half, each the pattern of a 16-bit number. -/
def hiV (w : BitVec 32) : EReal := Ideal.ofBits .bf16 ((w >>> 16#32).setWidth 16)
def loV (w : BitVec 32) : EReal := Ideal.ofBits .bf16 (w.setWidth 16)

/-- A 16-bit number's pattern followed by sixteen zero bits denotes, as a 32-bit number, what the pattern denotes. -/
theorem ofBits_widen (h : BitVec 16) (w : BitVec 32) (e : w.toNat = h.toNat * 65536) : Ideal.ofBits .f32 w = Ideal.ofBits .bf16 h := by
  have hl := h.isLt
  have e1 : (w.extractLsb' (8 + 23) 1).toNat = (h.extractLsb' (8 + 7) 1).toNat := by
    simp only [BitVec.extractLsb'_toNat, Nat.shiftRight_eq_div_pow, e]; omega
  have e2 : (w.extractLsb' 23 8).toNat = (h.extractLsb' 7 8).toNat := by
    simp only [BitVec.extractLsb'_toNat, Nat.shiftRight_eq_div_pow, e]; omega
  have e3 : (w.extractLsb' 0 23).toNat = (h.extractLsb' 0 7).toNat * 65536 := by
    simp only [BitVec.extractLsb'_toNat, Nat.shiftRight_eq_div_pow, e]; omega
  have e1' : w.extractLsb' (8 + 23) 1 = h.extractLsb' (8 + 7) 1 := BitVec.eq_of_toNat_eq e1
  show Ideal.ieee 8 23 w = Ideal.ieee 8 7 h
  unfold Ideal.ieee
  simp only [e1', e2, e3]
  generalize (h.extractLsb' 0 7).toNat = f
  generalize (h.extractLsb' 7 8).toNat = x
  generalize (h.extractLsb' (8 + 7) 1 == 1#1) = n
  have hf : (f * 65536 = 0) = (f = 0) := by simp
  simp only [hf]
  split_ifs <;> first
    | rfl
    | (congr 1; push_cast
       rw [show ((x : ℤ) - 127 - 7) = ((x : ℤ) - 127 - 23) + 16 by ring, zpow_add₀ (by norm_num)]
       norm_num
       ring)
    | (congr 1; push_cast
       rw [show (2 : ℝ) ^ (-133 : ℤ) = 65536 * (2 : ℝ) ^ (-149 : ℤ) by norm_num]
       ring)

/-- The upper half alone, and the lower half moved up. -/
theorem ofBits_high (w : BitVec 32) : Ideal.ofBits .f32 (w &&& 4294901760#32) = hiV w := by
  refine ofBits_widen _ _ ?_
  have : w &&& 4294901760#32 = (w >>> 16#32) <<< 16#32 := by
    have hm : ∀ i < 32, (4294901760#32 : BitVec 32).getLsbD i = !decide (i < 16) := by decide
    refine BitVec.eq_of_getLsbD_eq fun i hi => ?_
    rw [BitVec.getLsbD_and, hm i hi, BitVec.shiftLeft_eq', BitVec.ushiftRight_eq', BitVec.getLsbD_shiftLeft, BitVec.getLsbD_ushiftRight]
    show _ = (decide (i < 32) && !decide (i < 16) && w.getLsbD (16 + (i - 16)))
    rw [decide_eq_true hi, Bool.true_and]
    by_cases h : i < 16
    · simp [h]
    · rw [show 16 + (i - 16) = i by omega, Bool.and_comm]
  rw [this]
  have := w.isLt
  simp [BitVec.toNat_shiftLeft, BitVec.toNat_ushiftRight, Nat.shiftRight_eq_div_pow, Nat.shiftLeft_eq]
  omega
/-- A word shifted left by 16 and read as f32 is its low half read as bf16. -/
theorem ofBits_low (w : BitVec 32) : Ideal.ofBits .f32 (w <<< 16#32) = loV w := by
  refine ofBits_widen _ _ ?_
  have := w.isLt
  simp [BitVec.toNat_shiftLeft, Nat.shiftLeft_eq]
  omega

end Cert.Proof

end
-- ==== Proof.Finite.lean ====
/-
  What the second precondition says of the arguments, element by element: every neighbour's number is below 10000, and every
  value read is finite (neither infinity) over the reals.
-/
module

public import proofs.«01_k».proof.Proof.Range
public import proofs.«01_k».proof.Proof.Halves
public import proofs.«01_k».proof.Proof.Gen.Pre_in_range_finite
public import Idealize.ShloMosaic.PureOps.Ideal
public import Idealize.ShloMosaic.Lib.KernelVsHost

@[expose] public section

noncomputable section

namespace Cert.Proof

open Idealize.ShloMosaic

/-- A value whose magnitude compares below `+∞` is neither infinity. -/
theorem finite_of_lt (x : EReal) (h : FloatOps.cmpf .olt (FloatOps.hostAbsf (F := Ideal) (φ := .f32) x) (FloatOps.ofBits (F := Ideal) .f32 0x7F800000#32) = 1#1) :
    x ≠ ⊤ ∧ x ≠ ⊥ := by
  have hh : IntOp.xori (FloatOps.weird (F := Ideal) x) 1#1 = 1#1 := (Ideal.xori_weird_eq_hostAbsf_olt_inf x).trans h
  have e : IntOp.xori (BitVec.ofBool (decide ((x : EReal) = ⊤ ∨ (x : EReal) = ⊥))) 1#1 = 1#1 := hh
  by_cases hx : x = ⊤ ∨ x = ⊥
  · simp [hx, IntOp.xori] at e
  · exact not_or.1 hx

/-- The host's shift right by 16 is the shift right by 16. -/
theorem host_shr (w : BitVec 32) : IntOp.shrui .host w 16#32 = w >>> 16#32 := if_pos (by decide)

/-- What the second precondition says, at the arguments. -/
structure Finite (a0 : IVec Cert.Pre_in_range_finite.S10000x128 32) (a1 : FVec Ideal Cert.Pre_in_range_finite.S10000x3 .f32)
    (a2 : IVec Cert.Pre_in_range_finite.S10000x32 32) (a3 : FVec Ideal Cert.Pre_in_range_finite.S15x3 .f32) (a4 : FVec Ideal Cert.Pre_in_range_finite.S15x128x128 .f32) : Prop where
  range : ∀ j, (a2 j).toNat < 10000
  hi : ∀ i, hiV (a0 i) ≠ ⊤ ∧ hiV (a0 i) ≠ ⊥
  lo : ∀ i : Cert.Pre_in_range_finite.S10000x128.Idx, (i 1).val < 6 → loV (a0 i) ≠ ⊤ ∧ loV (a0 i) ≠ ⊥
  x : ∀ i, a1 i ≠ (⊤ : EReal) ∧ a1 i ≠ (⊥ : EReal)
  kp : ∀ i, a3 i ≠ (⊤ : EReal) ∧ a3 i ≠ (⊥ : EReal)
  w : ∀ i, a4 i ≠ (⊤ : EReal) ∧ a4 i ≠ (⊥ : EReal)

/-- The precondition of the equation says what `Finite` lists. -/
theorem pre_finite (a0 : IVec Cert.Pre_in_range_finite.S10000x128 32) (a1 : FVec Ideal Cert.Pre_in_range_finite.S10000x3 .f32)
    (a2 : IVec Cert.Pre_in_range_finite.S10000x32 32) (a3 : FVec Ideal Cert.Pre_in_range_finite.S15x3 .f32) (a4 : FVec Ideal Cert.Pre_in_range_finite.S15x128x128 .f32)
    (h : Cert.Pre_in_range_finite.fn (F := Ideal) a0 a1 a2 a3 a4 = fun _ => 1#1) : Finite a0 a1 a2 a3 a4 := by
  have z := congrFun h (fun i => i.elim0)
  obtain ⟨z, hw⟩ := IntOp.andi_eq_one.1 z
  obtain ⟨z, hk⟩ := IntOp.andi_eq_one.1 z
  obtain ⟨z, hx⟩ := IntOp.andi_eq_one.1 z
  obtain ⟨z, hl⟩ := IntOp.andi_eq_one.1 z
  obtain ⟨hr, hh⟩ := IntOp.andi_eq_one.1 z
  refine ⟨fun j => lt_of_signed _ (Host.reduce_andi_all _ _ _ _ _ hr j), fun i => ?_, fun i h6 => ?_, fun i => ?_, fun i => ?_, fun i => ?_⟩
  · have e := finite_of_lt _ (Host.reduce_andi_all _ _ _ _ _ hh i)
    unfold hiV
    rw [← host_shr]
    exact e
  · have e := finite_of_lt _ (Host.reduce_andi_all _ _ _ _ _ hl
      (show Cert.Pre_in_range_finite.S10000x6.Idx from fun a => match a with | 0 => ⟨(i 0).val, (i 0).isLt⟩ | 1 => ⟨(i 1).val, h6⟩))
    have hi : ∀ (j : Cert.Pre_in_range_finite.S10000x128.Idx), (∀ a, (j a).val = (i a).val) → loV (a0 j) ≠ ⊤ ∧ loV (a0 j) ≠ ⊥ → loV (a0 i) ≠ ⊤ ∧ loV (a0 i) ≠ ⊥ :=
      fun j hj he => by rwa [show j = i from funext fun a => Fin.ext (hj a)] at he
    exact hi _ (fun a => match a with | 0 => Nat.zero_add _ | 1 => Nat.zero_add _) e
  · exact finite_of_lt _ (Host.reduce_andi_all _ _ _ _ _ hx i)
  · exact finite_of_lt _ (Host.reduce_andi_all _ _ _ _ _ hk i)
  · exact finite_of_lt _ (Host.reduce_andi_all _ _ _ _ _ hw i)

end Cert.Proof

end
-- ==== Proof.KernelIdeal.Tile.lean ====
/-
  The SparseCore call of the kernel, one vector subcore at a time. Thirty-two tasks (two SparseCores, sixteen vector
  subcores each) share the 323584 rows of the result evenly; each runs 79 trips of 128 rows: fetch the trip's 128 row
  numbers, gather those rows of the table by the indirect stream, write them out to the trip's rows of the result. Here:
  the set-up of the launch, what each task is handed and hands back — the VALUE of its rows included —, and the task's
  run, its loop by an invariant.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on 16 tiles -/
theorem nSub_zero : (K (F := F)).nSub 0 = 16 := rfl
/-- of each of 2 cores. -/
theorem nCore_zero : (K (F := F)).nCore 0 = 2 := rfl

/-- The launch's own semaphores are distinct where they must be and no kernel's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays of the call -/

abbrev tLoc (d : Dev nD) : Loc nD τ sig := (SparseCore.T d).loc main_arg0
abbrev nLoc (d : Dev nD) : Loc nD τ sig := (SparseCore.T d).loc main_v2
abbrev oLoc (d : Dev nD) : Loc nD τ sig := (SparseCore.T d).loc main_v20

local notation "tV" => (Memref.whole Cert.KernelIdeal.main_arg0_scv : Memref Cert.KernelIdeal.sig Kind.scVector Space.hbm Cert.KernelIdeal.S10000x128 EltTy.i32)
local notation "nV" => (Memref.whole Cert.KernelIdeal.main_v2_scv : Memref Cert.KernelIdeal.sig Kind.scVector Space.hbm Cert.KernelIdeal.S323584 EltTy.i32)
local notation "oV" => (Memref.whole Cert.KernelIdeal.main_v20_scv : Memref Cert.KernelIdeal.sig Kind.scVector Space.hbm Cert.KernelIdeal.S323584x128 EltTy.i32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.i32)

/-- The row number at position `r` of the list, and the entry `(r, c)` of the table. -/
abbrev ixN (r : Fin 323584) : S323584.Idx := fun | 0 => r | ⟨_ + 1, h⟩ => absurd h (Nat.not_lt.2 (Nat.le_add_left _ _))
abbrev ixT (r : Fin 10000) (c : Fin 128) : S10000x128.Idx :=
  fun | 0 => r | 1 => c | ⟨_ + 2, h⟩ => absurd h (Nat.not_lt.2 (Nat.le_add_left _ _))

/-- Entry `(r, c)` of the result. -/
abbrev ixO (r : Fin 323584) (c : Fin 128) : S323584x128.Idx :=
  fun | 0 => r | 1 => c | ⟨_ + 2, h⟩ => absurd h (Nat.not_lt.2 (Nat.le_add_left _ _))
/-- Entry `(r, c)` of a trip's 128 rows. -/
abbrev ixR (r : Fin 128) (c : Fin 128) : S128x128.Idx :=
  fun | 0 => r | 1 => c | ⟨_ + 2, h⟩ => absurd h (Nat.not_lt.2 (Nat.le_add_left _ _))

/-- What the call computes: row `r` of the result is the row of the table that entry `r` of the list names. -/
def gath (tv : S10000x128.Idx → Elt F .i32) (nv : S323584.Idx → Elt F .i32) : S323584x128.Idx → Elt F .i32 :=
  fun j => tv (ixT ⟨min (nv (ixN (j 0))).toNat 9999, by omega⟩ (j 1))

/-! ## Shares: the full share halved `n` times -/

/-- Piece `i` of the `2 ^ n` equal pieces of share `q`, halved `n` times: bit by bit of `i`, the left or the right half. -/
def piece : (n : ℕ) → PosShare TreeShare → Fin (2 ^ n) → PosShare TreeShare
  | 0, q, _ => q
  | n + 1, q, i => if i.val % 2 = 0 then piece n q.left ⟨i.val / 2, by have := i.isLt; omega⟩ else piece n q.right ⟨i.val / 2, by have := i.isLt; omega⟩

/-- The numbers below `2 ^ (n + 1)` by their lowest bit. -/
def bitEquiv (n : ℕ) : Fin (2 ^ n) ⊕ Fin (2 ^ n) ≃ Fin (2 ^ (n + 1)) where
  toFun
    | .inl i => ⟨2 * i.val, by have := i.isLt; omega⟩
    | .inr i => ⟨2 * i.val + 1, by have := i.isLt; omega⟩
  invFun k := if k.val % 2 = 0 then .inl ⟨k.val / 2, by have := k.isLt; omega⟩ else .inr ⟨k.val / 2, by have := k.isLt; omega⟩
  left_inv := by
    rintro (i | i)
    · simp
    · have h : ¬ (2 * i.val + 1) % 2 = 0 := by omega
      have h' : (2 * i.val + 1) / 2 = i.val := by omega
      simp only [h, if_false, h']
  right_inv k := by
    by_cases h : k.val % 2 = 0
    · simp only [h, if_true]; exact Fin.ext (by simp only; omega)
    · simp only [h, if_false]; exact Fin.ext (by simp only; omega)

/-- The first half of the pieces of a share are the pieces of its left half, -/
theorem piece_inl (n : ℕ) (q : PosShare TreeShare) (i : Fin (2 ^ n)) : piece (n + 1) q (bitEquiv n (.inl i)) = piece n q.left i := by
  have h : (bitEquiv n (.inl i)).val = 2 * i.val := rfl
  have e : (⟨(bitEquiv n (.inl i)).val / 2, by rw [h]; have := i.isLt; omega⟩ : Fin (2 ^ n)) = i := Fin.ext (by simp only [h]; omega)
  rw [piece, if_pos (by rw [h]; omega), e]
/-- the second half those of its right half. -/
theorem piece_inr (n : ℕ) (q : PosShare TreeShare) (i : Fin (2 ^ n)) : piece (n + 1) q (bitEquiv n (.inr i)) = piece n q.right i := by
  have h : (bitEquiv n (.inr i)).val = 2 * i.val + 1 := rfl
  have e : (⟨(bitEquiv n (.inr i)).val / 2, by rw [h]; have := i.isLt; omega⟩ : Fin (2 ^ n)) = i := Fin.ext (by simp only [h]; omega)
  rw [piece, if_neg (by rw [h]; omega), e]

/-- A points-to at a share is its pieces' together. -/
theorem pointsTo_pieces2 {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{piece n q i} f
  | 0, q => (bigSep_univ_of_subsingleton (0 : Fin 1) (Φ := fun i : Fin (2 ^ 0) => (ℓ ↦[I]{piece 0 q i} f : sProp 𝕄))).symm
  | n + 1, q => by
    rw [bigSep_univ_equiv (bitEquiv n) (fun i : Fin (2 ^ (n + 1)) => (ℓ ↦[I]{piece (n + 1) q i} f : sProp 𝕄)), bigSep_univ_sum,
      BI.Entails.antisymm (pointsTo_share (PosShare.mem_left_op_right q)).1 (pointsTo_share (PosShare.mem_left_op_right q)).2,
      pointsTo_pieces2 I f n q.left, pointsTo_pieces2 I f n q.right]
    congr 1 <;> refine bigSep_congr fun i _ => ?_
    · rw [piece_inl]
    · rw [piece_inr]

/-! ## The tasks' rows -/

/-- Task `w` of the thirty-two. -/
abbrev wid (c : Fin 2) (s : Fin 16) : Fin (2 ^ 5) := ⟨2 * s.val + c.val, by omega⟩

/-- The 10112 rows of the result that task `w` writes. -/
def rowsOf (w : Fin (2 ^ 5)) : Finset S323584x128.Idx := Finset.univ.filter fun j => (j 0).val / 10112 = w.val

/-- A row of the result is the task's whose number is the row's, divided by 10112. -/
theorem mem_rowsOf {w : Fin (2 ^ 5)} {j : S323584x128.Idx} : j ∈ rowsOf w ↔ (j 0).val / 10112 = w.val := by simp [rowsOf]

/-- Two tasks share no row, -/
theorem rowsOf_disjoint : ∀ i ∈ (Finset.univ : Finset (Fin (2 ^ 5))), ∀ j ∈ (Finset.univ : Finset (Fin (2 ^ 5))), i ≠ j → Disjoint (rowsOf i) (rowsOf j) := by
  intro i _ j _ h
  rw [Finset.disjoint_left]; intro x hx hx'
  rw [mem_rowsOf] at hx hx'
  exact h (Fin.ext (hx.symm.trans hx'))

/-- and every row is some task's. -/
theorem rowsOf_cover : (Finset.univ : Finset (Fin (2 ^ 5))).biUnion rowsOf = Finset.univ := by
  ext j
  simp only [Finset.mem_biUnion, Finset.mem_univ, true_and, iff_true]
  have h : (j 0).val < 323584 := (j 0).isLt
  exact ⟨⟨(j 0).val / 10112, by omega⟩, mem_rowsOf.mpr rfl⟩

/-! ## What the handshakes carry -/

/-- A share of the table and of the list. -/
abbrev tPts (d : Dev nD) (q : PosShare TreeShare) (tv : Buf (Elt F) (tLoc d)) : sProp 𝕄 := tLoc d ↦{q} tv
abbrev nPts (d : Dev nD) (q : PosShare TreeShare) (nv : Buf (Elt F) (nLoc d)) : sProp 𝕄 := nLoc d ↦{q} nv
/-- Task `w`'s rows of the result, at `f`. -/
abbrev oPts (d : Dev nD) (w : Fin (2 ^ 5)) (f : Buf (Elt F) (oLoc d)) : sProp 𝕄 := oLoc d ↦[rowsOf w]{fullShare} f

section Carry

variable (tv : (d : Dev nD) → Buf (Elt F) (tLoc d)) (nv : (d : Dev nD) → Buf (Elt F) (nLoc d))

/-- What task `w` is handed: a thirty-second of the table and of the list, its rows of the result at some contents. -/
abbrev goR (d : Dev nD) (w : Fin (2 ^ 5)) : sProp 𝕄 :=
  iprop(tPts d (piece 5 fullShare w) (tv d) ∗ nPts d (piece 5 fullShare w) (nv d) ∗ ∃ f, oPts d w f)
/-- What it hands back: the shares, and its rows at the gathered table rows. -/
abbrev tdR (d : Dev nD) (w : Fin (2 ^ 5)) : sProp 𝕄 :=
  iprop(tPts d (piece 5 fullShare w) (tv d) ∗ nPts d (piece 5 fullShare w) (nv d) ∗ oPts d w (gath (tv d) (nv d)))

/-- The call's payloads: a SparseCore takes what its sixteen tasks take and hands back what they hand back. -/
def P : (K (F := F)).Pay (nD := nD) (Val := Elt F) (Name := ℕ) (U := UU) where
  st := fun q d c => match q with | 0 => bigSep Finset.univ fun s : Fin 16 => goR tv nv d (wid c s)
  dn := fun q d c => match q with | 0 => bigSep Finset.univ fun s : Fin 16 => tdR tv nv d (wid c s)
  go := fun q d c s => match q with | 0 => goR tv nv d (wid c s)
  td := fun q d c s => match q with | 0 => tdR tv nv d (wid c s)
  x := fun _ _ => iprop(emp)

instance P_storable : (P (F := F) tv nv).IsStorable where
  st q d c := match q with
    | 0 => (inferInstance : BI.Storable (upEmb : UEmb _ 𝕄) (bigSep Finset.univ fun s : Fin 16 => goR tv nv d (wid c s)))
  dn q d c := match q with
    | 0 => (inferInstance : BI.Storable (upEmb : UEmb _ 𝕄) (bigSep Finset.univ fun s : Fin 16 => tdR tv nv d (wid c s)))
  go q d c s := match q with
    | 0 => (inferInstance : BI.Storable (upEmb : UEmb _ 𝕄) (goR tv nv d (wid c s)))
  td q d c s := match q with
    | 0 => (inferInstance : BI.Storable (upEmb : UEmb _ 𝕄) (tdR tv nv d (wid c s)))

/-- A SparseCore's operands ARE its tasks', its results theirs. -/
theorem vecSplit : (K (F := F)).VecSplit' (P tv nv) 0 := by
  intro d c
  show (bigSep Finset.univ fun s : Fin 16 => goR tv nv d (wid c s)) ⊢ |={Set.univ}=> iprop(
      (bigSep Finset.univ fun s : Fin 16 => goR tv nv d (wid c s))
      ∗ ((bigSep Finset.univ fun s : Fin 16 => tdR tv nv d (wid c s)) -∗ bigSep Finset.univ fun s : Fin 16 => tdR tv nv d (wid c s)))
  iintro H; imodintro
  isplitl [H]; · iexact H
  iintro H; iexact H

end Carry

end Cert.KernelIdeal.Pf

end
-- ==== Proof.KernelIdeal.Body.lean ====
module

public import proofs.«01_k».proof.Proof.KernelIdeal.Tile
public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## What the body computes from its five input blocks -/

/-- What a load at rectangle `r` reads of a block `x`. -/
def ldAt {s : Shape} {e : EltTy} (r : LoadRect s) (x : s.Idx → Elt F e) : r.shape.Idx → Elt F e := fun j => x (r.idx j)

/-- Kernel point `k`'s slab lies within the concatenated weights. -/
theorem inb4 (k : ℕ) (h : k < 15) : ∀ a : Fin 3, (![k, 0, 0] : Fin 3 → ℕ) a + S1x128x256.size a ≤ S15x128x256.size a
  | 0 => h | 1 => Nat.le_refl 128 | 2 => Nat.le_refl 256 | ⟨_ + 3, h⟩ => absurd h (Nat.not_lt.2 (Nat.le_add_left _ _))
/-- Kernel point `k`'s slab lies within the weights' high parts. -/
theorem inb5 (k : ℕ) (h : k < 15) : ∀ a : Fin 3, (![k, 0, 0] : Fin 3 → ℕ) a + S1x128x128.size a ≤ S15x128x128.size a
  | 0 => h | 1 => Nat.le_refl 128 | 2 => Nat.le_refl 128 | ⟨_ + 3, h⟩ => absurd h (Nat.not_lt.2 (Nat.le_add_left _ _))

/-- Kernel point `k`'s slab of the concatenated weights, and of the weights' high parts. -/
def ld4 (k : ℕ) (h : k < 15) (x4 : S15x128x256.Idx → Elt F .bf16) : Vec F S1x128x256 .bf16 :=
  ldAt (Rect.unit (s := S15x128x256) ![k, 0, 0] S1x128x256.size (inb4 k h)).toLoadRect x4
def ld5 (k : ℕ) (h : k < 15) (x5 : S15x128x128.Idx → Elt F .bf16) : Vec F S1x128x128 .bf16 :=
  ldAt (Rect.unit (s := S15x128x128) ![k, 0, 0] S1x128x128.size (inb5 k h)).toLoadRect x5

/-- The features' high halves, and the distances, of one block of 128 query points. -/
def tcDist (x1 : S4096x128.Idx → Elt F .i32) (x2 : S128x16.Idx → Elt F .f32) (x3 : S16x16.Idx → Elt F .f32) : FVec F S4096x15 .f32 :=
  let v0 : Vec F S4096x128 .i32 := ldAt (Rect.unit (s := S4096x128) ![0, 0] S4096x128.size inb_S4096x128_S4096x128_0_0).toLoadRect x1
  let v2 : Vec F S128x16 .f32 := ldAt (Rect.unit (s := S128x16) ![0, 0] S128x16.size inb_S128x16_S128x16_0_0).toLoadRect x2
  let v25 : Vec F S16x16 .f32 := ldAt (Rect.unit (s := S16x16) ![0, 0] S16x16.size inb_S16x16_S16x16_0_0).toLoadRect x3
  let v33 : Vec F S1x15 .f32 := ldAt (Rect.unit (s := S16x16) ![3, 0] S1x15.size inb_S16x16_S1x15_3_0).toLoadRect x3
  k1_pay4 v0 v2 v25 v33
def tcFeat (x1 : S4096x128.Idx → Elt F .i32) : FVec F S4096x128 .bf16 :=
  let v0 : Vec F S4096x128 .i32 := ldAt (Rect.unit (s := S4096x128) ![0, 0] S4096x128.size inb_S4096x128_S4096x128_0_0).toLoadRect x1
  k1_pay3 v0

/-- The sum over the kernel points: each point's weighted features (high part `v52`, rest `v55`) times that point's weights. -/
def tcSum (v7 : FVec F S4096x128 .bf16) (v41 : FVec F S4096x15 .f32) (x4 : S15x128x256.Idx → Elt F .bf16) (x5 : S15x128x128.Idx → Elt F .bf16) : FVec F S128x128 .f32 :=
  let cst_11 : F .f32 := Scalar.ofBits .f32 0x3F800000#32
  let v52 := k1_pay6 v7 v41 cst_11
  let v55 := k1_pay7 v7 v41 cst_11
  let v59 : Vec F S1x128x256 .bf16 := ld4 0 (by omega) x4
  let v68 : Vec F S1x128x128 .bf16 := ld5 0 (by omega) x5
  let v74 : Vec F S1x128x256 .bf16 := ld4 1 (by omega) x4
  let v80 := k1_pay8 v7 v41 cst_11 v59 v68 v74
  let v82 := k1_pay9 v7 v41 cst_11
  let v83 : Vec F S1x128x128 .bf16 := ld5 1 (by omega) x5
  let v89 : Vec F S1x128x256 .bf16 := ld4 2 (by omega) x4
  let v98 : Vec F S1x128x128 .bf16 := ld5 2 (by omega) x5
  let v104 : Vec F S1x128x256 .bf16 := ld4 3 (by omega) x4
  let v113 : Vec F S1x128x128 .bf16 := ld5 3 (by omega) x5
  let v119 : Vec F S1x128x256 .bf16 := ld4 4 (by omega) x4
  let v116 := k1_pay10 v52 v55 v80 v82 v83 v89 v98 v104 v113
  let v121 := k1_pay11 v52 v119
  let v128 : Vec F S1x128x128 .bf16 := ld5 4 (by omega) x5
  let v134 : Vec F S1x128x256 .bf16 := ld4 5 (by omega) x4
  let v143 : Vec F S1x128x128 .bf16 := ld5 5 (by omega) x5
  let v149 : Vec F S1x128x256 .bf16 := ld4 6 (by omega) x4
  let v158 : Vec F S1x128x128 .bf16 := ld5 6 (by omega) x5
  let v161 := (k1_pay12 v52 v55 v116 v121 v128 v134 v143 v149 v158)
  let v164 : Vec F S1x128x256 .bf16 := ld4 7 (by omega) x4
  let v173 : Vec F S1x128x128 .bf16 := ld5 7 (by omega) x5
  let v179 : Vec F S1x128x256 .bf16 := ld4 8 (by omega) x4
  let v188 : Vec F S1x128x128 .bf16 := ld5 8 (by omega) x5
  let v194 : Vec F S1x128x256 .bf16 := ld4 9 (by omega) x4
  let v200 := k1_pay13 v52 v55 v161 v164 v173 v179 v188 v194
  let v201 := k1_pay14 v55
  let v203 : Vec F S1x128x128 .bf16 := ld5 9 (by omega) x5
  let v209 : Vec F S1x128x256 .bf16 := ld4 10 (by omega) x4
  let v218 : Vec F S1x128x128 .bf16 := ld5 10 (by omega) x5
  let v224 : Vec F S1x128x256 .bf16 := ld4 11 (by omega) x4
  let v233 : Vec F S1x128x128 .bf16 := ld5 11 (by omega) x5
  let v236 := k1_pay15 v52 v55 v200 v201 v203 v209 v218 v224 v233
  let v238 := k1_pay16 v52
  let v239 : Vec F S1x128x256 .bf16 := ld4 12 (by omega) x4
  let v248 : Vec F S1x128x128 .bf16 := ld5 12 (by omega) x5
  let v254 : Vec F S1x128x256 .bf16 := ld4 13 (by omega) x4
  let v263 : Vec F S1x128x128 .bf16 := ld5 13 (by omega) x5
  let v269 : Vec F S1x128x256 .bf16 := ld4 14 (by omega) x4
  let v278 : Vec F S1x128x128 .bf16 := ld5 14 (by omega) x5
  let v275 := k1_pay17 v52 v55 v236 v238 v239 v248 v254 v263 v269
  let v277 := k1_pay18 v55
  k1_pay1 v275 v277 v278

/-- One block of 128 rows of the result. -/
def tcOut (x1 : S4096x128.Idx → Elt F .i32) (x2 : S128x16.Idx → Elt F .f32) (x3 : S16x16.Idx → Elt F .f32)
    (x4 : S15x128x256.Idx → Elt F .bf16) (x5 : S15x128x128.Idx → Elt F .bf16) : FVec F S128x128 .f32 :=
  tcSum (tcFeat x1) (tcDist x1 x2 x3) x4 x5

/-! ## The body's run -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the result's block buffer, WITH the proof that from the six block buffers held whole the body
    runs to its return, the five inputs' as they were and the result's at that. -/
noncomputable def bodyRun (c : Dev nD) (i : grid1.Coords) (M1 : Memref sig .tc .vmem S4096x128 .i32) (h1 : M1.IsWhole) (M2 : Memref sig .tc .vmem S128x16 .f32) (h2 : M2.IsWhole)
    (M3 : Memref sig .tc .vmem S16x16 .f32) (h3 : M3.IsWhole) (M4 : Memref sig .tc .vmem S15x128x256 .bf16) (h4 : M4.IsWhole)
    (M5 : Memref sig .tc .vmem S15x128x128 .bf16) (h5 : M5.IsWhole) (M6 : Memref sig .tc .vmem S128x128 .f32) (h6 : M6.IsWhole)
    (f1 : Bf (F := F) c M1) (f2 : Bf (F := F) c M2) (f3 : Bf (F := F) c M3) (f4 : Bf (F := F) c M4) (f5 : Bf (F := F) c M5) :
    { W : Bf (F := F) c M6 // ∀ (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
            ∗ (iprop(pt c M1 f1 ∗ pt c M2 f2 ∗ pt c M3 f3 ∗ pt c M4 f4 ∗ pt c M5 f5 ∗ pt c M6 W) -∗ Q ⟨⟩))
          ⊢ wp frame (wpE (defs₀ (F := F)) 𝒱₀ c none) E (cc1__tc_body i M1 h1 M2 h2 M3 h3 M4 h4 M5 h5 M6 h6) Q } := by
  refine ⟨?_, fun f6 E Q => ?run⟩
  case run =>
    simp only [cc1__tc_body_eq_skeleton]; unfold cc1__tc_body_skel
    iintro ⟨H1, H2, H3, H4, H5, H6, Hk⟩
    sl_exec!

    sl_step
    iapply Hk
    isplitl [H1]; · iexact H1
    isplitl [H2]; · iexact H2
    isplitl [H3]; · iexact H3
    isplitl [H4]; · iexact H4
    isplitl [H5]; · iexact H5
    iexact H6

set_option maxRecDepth 16384 in
/-- That is `tcOut` of the five blocks. -/
theorem bodyRun_read (c : Dev nD) (i : grid1.Coords) (M1 : Memref sig .tc .vmem S4096x128 .i32) (h1 : M1.IsWhole) (M2 : Memref sig .tc .vmem S128x16 .f32) (h2 : M2.IsWhole)
    (M3 : Memref sig .tc .vmem S16x16 .f32) (h3 : M3.IsWhole) (M4 : Memref sig .tc .vmem S15x128x256 .bf16) (h4 : M4.IsWhole)
    (M5 : Memref sig .tc .vmem S15x128x128 .bf16) (h5 : M5.IsWhole) (M6 : Memref sig .tc .vmem S128x128 .f32) (h6 : M6.IsWhole)
    (f1 : Bf (F := F) c M1) (f2 : Bf (F := F) c M2) (f3 : Bf (F := F) c M3) (f4 : Bf (F := F) c M4) (f5 : Bf (F := F) c M5) :
    M6.view.read (Elt F) (bodyRun c i M1 h1 M2 h2 M3 h3 M4 h4 M5 h5 M6 h6 f1 f2 f3 f4 f5).1
      = tcOut (M1.view.read (Elt F) f1) (M2.view.read (Elt F) f2) (M3.view.read (Elt F) f3) (M4.view.read (Elt F) f4) (M5.view.read (Elt F) f5) := by
  show M6.view.read (Elt F) (M6.view.writes (Elt F) M6.view.junk (bodyRun.sl.H6_1 c M1 M2 M3 M4 M5 f1 f2 f3 f4 f5)) = _
  unfold bodyRun.sl.H6_1
  funext x
  have hx : (Rect.unit (s := S128x128) ![0, 0] S128x128.size inb_S128x128_S128x128_0_0).emb x = x := by
    funext a; apply Fin.ext
    show (![0, 0] : Fin 2 → ℕ) a + 1 * (x a).val = (x a).val
    match a with
    | 0 => show 0 + 1 * _ = _; omega
    | 1 => show 0 + 1 * _ = _; omega
  have e := View.read_writes_cons_emb (Val := Elt F) (v := M6.view) (f := M6.view.junk)
    (Rect.unit (s := S128x128) ![0, 0] S128x128.size inb_S128x128_S128x128_0_0)
    (k1_pay1 (bodyRun.sl.r_13 c M1 M2 M3 M4 M5 f1 f2 f3 f4 f5) (bodyRun.sl.r_14 c M1 M2 M3 f1 f2 f3) (bodyRun.sl.r_15 c M5 f5)) [] x
  rw [hx] at e
  exact e.trans rfl

end Cert.KernelIdeal.Pf
end
-- ==== Proof.Block.lean ====
/-
  What the body of the dense call computes over the reals, element by element, from what its five blocks hold: the features,
  the distances to the kernel points, the weighted features.
-/
module

public import proofs.«01_k».proof.Proof.KernelIdeal.Body
public import proofs.«01_k».proof.Proof.Halves
public import Idealize.ShloMosaic.Lib.Pointwise
public import Idealize.ShloMosaic.Lib.IdealHost

@[expose] public section

noncomputable section

namespace Cert.KernelIdeal.Val

open Cert.KernelIdeal Cert.KernelIdeal.Gen Cert.KernelIdeal.Pf
open Idealize.ShloMosaic

/-- Row `32 p + j` of a block: neighbour `j` of the block's query point `p`. -/
def row (p : Fin 128) (j : Fin 32) : Fin 4096 := ⟨p.val * 32 + j.val, by omega⟩

/-- A load of the whole block reads the block. -/
theorem ldAt_whole {n0 n1 : ℕ} {e : EltTy} (h : ∀ a, (![0, 0] : Fin 2 → ℕ) a + (![n0, n1] : Fin 2 → ℕ) a ≤ (⟨2, ![n0, n1]⟩ : Shape).size a)
    (x : (⟨2, ![n0, n1]⟩ : Shape).Idx → Elt Ideal e) (j : (⟨2, ![n0, n1]⟩ : Shape).Idx) :
    ldAt (Rect.unit (s := ⟨2, ![n0, n1]⟩) ![0, 0] ![n0, n1] h).toLoadRect x j = x j := by
  refine congrArg x (funext fun a => Fin.ext ?_)
  match a with
  | 0 => show 0 + 1 * (j 0).val = _; omega
  | 1 => show 0 + 1 * (j 1).val = _; omega

/-- A load of row 3 reads row 3. -/
theorem ldAt_row3 (x : S16x16.Idx → EReal) (k : Fin 15) :
    ldAt (F := Ideal) (e := .f32) (Rect.unit (s := S16x16) ![3, 0] ![1, 15] inb_S16x16_S1x15_3_0).toLoadRect x (ix2 0 k) = x (ix2 3 (k.castLE (by decide))) := by
  refine congrArg x (funext fun a => Fin.ext ?_)
  match a with
  | 0 => rfl
  | 1 => show 0 + 1 * k.val = k.val; omega

/-- The small positive constant under the square root. -/
def eps : ℝ := 9223372 * ((2 : ℝ) ^ 63)⁻¹
/-- The word of the small constant under the root, as a real. -/
theorem eps_eq : Ideal.ofBits .f32 0x2B8CBCCC#32 = (eps : EReal) := by
  unfold eps
  simp [Ideal.ofBits, Ideal.ieee]
/-- It is not negative. -/
theorem eps_nonneg : 0 ≤ eps := by
  unfold eps
  positivity
/-- The word of 2, as a real. -/
theorem two_eq : Ideal.ofBits .f32 0x40000000#32 = ((2 : ℝ) : EReal) := by
  simp [Ideal.ofBits, Ideal.ieee]
  rw [← EReal.coe_mul]
  norm_num

/-- The root of a nonnegative real, clamped at zero and shifted by the constant. -/
theorem sqrt_clamped (A B : ℝ) (h : A = B) (hB : 0 ≤ B) : Ideal.sqrt (max (A : EReal) 0 + (eps : EReal)) = ((Real.sqrt (B + eps) : ℝ) : EReal) := by
  rw [h, max_eq_left (EReal.coe_nonneg.mpr hB), ← EReal.coe_add, Ideal.sqrt_coe, if_neg (not_lt.mpr (add_nonneg hB eps_nonneg))]

/-- The weighted features: over the neighbours, the kernel point's weight times the feature. -/
theorem pay5_at (v7 : FVec Ideal S4096x128 .bf16) (v41 : FVec Ideal S4096x15 .f32) (p : Fin 128) (k : Fin 15) (d : Fin 128) :
    k1_pay5 v7 v41 (Scalar.ofBits (F := Ideal) .f32 0x3F800000#32) (ix3 p k d)
      = ∑ j : Fin 32, max 0 (1 - Ideal.div (v41 (ix2 (row p j) k)) 1) * v7 (ix2 (row p j) d) := by
  unfold k1_pay5
  pointwise
  rfl

set_option maxRecDepth 16384 in
/-- The features are the words' high halves. -/
theorem feat_at (x1 : S4096x128.Idx → BitVec 32) (r : Fin 4096) (d : Fin 128) :
    tcFeat (F := Ideal) x1 (ix2 r d) = Cert.Proof.hiV (x1 (ix2 r d)) := by
  unfold tcFeat k1_pay3 k1_pay2
  pointwise
  rw [ldAt_whole]
  exact Cert.Proof.ofBits_high _

/-- A word shifted left by 16 and read as a float is its low half's number. -/
theorem shl_low (w : BitVec 32) : Ideal.ofBits .f32 (IntOp.shli .vector w 16#32) = Cert.Proof.loV w := by
  rw [← Cert.Proof.ofBits_low]
  exact congrArg _ (if_pos (by decide))

set_option maxRecDepth 16384 in
/-- The distances: the neighbour's point `a`, the query point `b` and the kernel point `q`, all finite, and the expanded square
    of `a - b - q` is that square. -/
theorem dist_at (x1 : S4096x128.Idx → BitVec 32) (x2 : S128x16.Idx → EReal) (x3 : S16x16.Idx → EReal) (p : Fin 128) (j : Fin 32) (k : Fin 15)
    (a b q : Fin 3 → ℝ)
    (ha : ∀ c : Fin 3, Cert.Proof.loV (x1 (ix2 (row p j) ⟨c.val, by omega⟩)) + Cert.Proof.loV (x1 (ix2 (row p j) ⟨3 + c.val, by omega⟩)) = (a c : EReal))
    (hb : ∀ c : Fin 3, x2 (ix2 p ⟨c.val, by omega⟩) = (b c : EReal)) (hb0 : ∀ c : Fin 13, x2 (ix2 p ⟨3 + c.val, by omega⟩) = 0)
    (hq : ∀ c : Fin 3, x3 (ix2 ⟨c.val, by omega⟩ ⟨k.val, by omega⟩) = (q c : EReal))
    (hs : x3 (ix2 3 ⟨k.val, by omega⟩) = ((∑ c, q c * q c : ℝ) : EReal)) :
    tcDist (F := Ideal) x1 x2 x3 (ix2 (row p j) k) = ((Real.sqrt ((∑ c, (a c - b c - q c) * (a c - b c - q c)) + eps) : ℝ) : EReal) := by
  unfold tcDist k1_pay4 k1_pay2
  pointwise
  simp only [ldAt_whole, ldAt_row3, shl_low, ha]
  have hp : ∀ h, (⟨(row p j).val / 32, h⟩ : Fin 128) = p := fun h => Fin.ext (by show (p.val * 32 + j.val) / 32 = p.val; omega)
  simp only [hp, hb, hb0, hq]
  rw [show x3 (ix2 3 (k.castLE (by decide))) = _ from hs, two_eq, eps_eq]
  simp only [sub_zero, mul_zero, zero_mul, Finset.sum_const_zero, add_zero, Fin.sum_univ_three]
  norm_cast
  exact sqrt_clamped _ _ (by ring) (add_nonneg (add_nonneg (mul_self_nonneg _) (mul_self_nonneg _)) (mul_self_nonneg _))

/-- A load of kernel point `k`'s slab reads that slab. -/
theorem ld4_at (k : ℕ) (h : k < 15) (x4 : S15x128x256.Idx → EReal) (d : Fin 128) (e : Fin 256) :
    ld4 (F := Ideal) k h x4 (ix3 0 d e) = x4 (ix3 ⟨k, h⟩ d e) := by
  refine congrArg x4 (funext fun a => Fin.ext ?_)
  match a with
  | 0 => show k + 1 * 0 = k; omega
  | 1 => show 0 + 1 * d.val = d.val; omega
  | 2 => show 0 + 1 * e.val = e.val; omega
/-- An element of kernel point `k`'s slab of the weights' high parts. -/
theorem ld5_at (k : ℕ) (h : k < 15) (x5 : S15x128x128.Idx → EReal) (d : Fin 128) (e : Fin 128) :
    ld5 (F := Ideal) k h x5 (ix3 0 d e) = x5 (ix3 ⟨k, h⟩ d e) := by
  refine congrArg x5 (funext fun a => Fin.ext ?_)
  match a with
  | 0 => show k + 1 * 0 = k; omega
  | 1 => show 0 + 1 * d.val = d.val; omega
  | 2 => show 0 + 1 * e.val = e.val; omega

/-- A sum over the fifteen kernel points, written out. -/
theorem sum15 (f : Fin 15 → EReal) : ∑ k, f k = f 0 + f 1 + f 2 + f 3 + f 4 + f 5 + f 6 + f 7 + f 8 + f 9 + f 10 + f 11 + f 12 + f 13 + f 14 := by
  simp only [Fin.sum_univ_castSucc, Fin.sum_univ_zero, zero_add]
  rfl

set_option maxRecDepth 16384 in
/-- The accumulated sum: where the weights' rests and the features' rests are zero, the sum over the kernel points and the
    features of the weighted feature times the weight. -/
theorem sum_at (v7 : FVec Ideal S4096x128 .bf16) (v41 : FVec Ideal S4096x15 .f32) (x4 : S15x128x256.Idx → EReal) (x5 : S15x128x128.Idx → EReal)
    (p : Fin 128) (e : Fin 128) (w : Fin 15 → Fin 128 → ℝ)
    (hw : ∀ k d, k1_pay5 v7 v41 (Scalar.ofBits (F := Ideal) .f32 0x3F800000#32) (ix3 p k d) = (w k d : EReal))
    (h4 : ∀ k (d : Fin 128), x4 (ix3 k d ⟨128 + e.val, by omega⟩) = 0) :
    tcSum (F := Ideal) v7 v41 x4 x5 (ix2 p e) = ∑ k : Fin 15, ∑ d : Fin 128, (w k d : EReal) * x4 (ix3 k d ⟨e.val, by omega⟩) := by
  have h6 : ∀ k d, k1_pay6 v7 v41 (Scalar.ofBits (F := Ideal) .f32 0x3F800000#32) (ix3 p k d) = (w k d : EReal) := hw
  have h7 : ∀ k d, k1_pay7 v7 v41 (Scalar.ofBits (F := Ideal) .f32 0x3F800000#32) (ix3 p k d) = (0 : EReal) := fun k d => by
    show (k1_pay5 v7 v41 (Scalar.ofBits (F := Ideal) .f32 0x3F800000#32) (ix3 p k d) - k1_pay5 v7 v41 (Scalar.ofBits (F := Ideal) .f32 0x3F800000#32) (ix3 p k d) : EReal) = 0
    rw [hw]
    exact EReal.sub_self (EReal.coe_ne_top _) (EReal.coe_ne_bot _)
  unfold tcSum k1_pay1 k1_pay8 k1_pay9 k1_pay10 k1_pay11 k1_pay12 k1_pay13 k1_pay14 k1_pay15 k1_pay16 k1_pay17 k1_pay18
  generalize k1_pay6 v7 v41 (Scalar.ofBits (F := Ideal) .f32 0x3F800000#32) = v52 at h6 ⊢
  generalize k1_pay7 v7 v41 (Scalar.ofBits (F := Ideal) .f32 0x3F800000#32) = v55 at h7 ⊢
  pointwise
  simp only [ld4_at, h6, h7, h4, zero_mul, mul_zero, Finset.sum_const_zero, add_zero, zero_add]
  rw [sum15]
  rfl

end Cert.KernelIdeal.Val
end
-- ==== Proof.KernelIdeal.Task.lean ====
/-
  One task of the SparseCore call: a trip of its loop at a symbolic task and trip number, the loop by its invariant
  (before trip `k` the first `128 * k` of the task's rows hold the gathered table rows), and the obligation the launch
  theorem asks of every task.
-/
module

public import proofs.«01_k».proof.Proof.KernelIdeal.Tile

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg0_scv : Memref Cert.KernelIdeal.sig Kind.scVector Space.hbm Cert.KernelIdeal.S10000x128 EltTy.i32)
local notation "nV" => (Memref.whole Cert.KernelIdeal.main_v2_scv : Memref Cert.KernelIdeal.sig Kind.scVector Space.hbm Cert.KernelIdeal.S323584 EltTy.i32)
local notation "oV" => (Memref.whole Cert.KernelIdeal.main_v20_scv : Memref Cert.KernelIdeal.sig Kind.scVector Space.hbm Cert.KernelIdeal.S323584x128 EltTy.i32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.i32)

section Trip

variable (d : Dev nD) (L : grid0.Coords)

abbrev cV (L : grid0.Coords) : Fin τ.nSC := (L 0).castLE hcore0
abbrev jV (L : grid0.Coords) : Fin τ.nSub := (L 1).castLE hsub0
/-- There are 2 cores, -/
theorem bound_zero : grid0.bound 0 = 2 := rfl
/-- of 16 tiles each. -/
theorem bound_one : grid0.bound 1 = 16 := rfl
/-- The task's number. -/
abbrev wL (L : grid0.Coords) : Fin (2 ^ 5) := wid (Fin.cast bound_zero (L 0)) (Fin.cast bound_one (L 1))

/-- A task makes 79 trips. -/
theorem trips_eq : k0_t1_loop.trips = 79 := by decide

/-- The trip's 128 entries of the list, and its 128 rows of the result, as the task addresses them. -/
abbrev nRow (k : Fin k0_t1_loop.trips) : Memref sig .scVector .hbm S128 .i32 :=
  (nV).slice (Rect.unit (s := S323584) (k0_off1 L k) S128.size (k0_off1_inb L k)) (fun _ => rfl)
abbrev oRow (k : Fin k0_t1_loop.trips) : Memref sig .scVector .hbm S128x128 .i32 :=
  (oV).slice (Rect.unit (s := S323584x128) (k0_off2 L k) S128x128.size (k0_off2_inb L k)) (fun _ => rfl)
/-- The whole table, as the task addresses it. -/
abbrev tAll : Memref sig .scVector .hbm S10000x128 .i32 :=
  (tV).slice (Rect.unit (s := S10000x128) ![0, 0] S10000x128.size inb_S10000x128_S10000x128_0_0) (fun _ => rfl)

/-- Position `x` of the trip's list slice is entry `10112 * task + 128 * trip + x`. -/
theorem nRow_emb (k : Fin k0_t1_loop.trips) (x : S128.Idx) :
    ((nRow L k).view.emb x : S323584.Idx) = ixN ⟨10112 * (wL L).val + 128 * k.val + (x 0).val, by
      have h0 : (L 0).val < 2 := (L 0).isLt
      have h1 : (L 1).val < 16 := (L 1).isLt
      have hk : k.val < 79 := trips_eq ▸ k.isLt
      have hx : (x 0).val < 128 := (x 0).isLt
      show 10112 * (2 * (L 1).val + (L 0).val) + 128 * k.val + (x 0).val < 323584
      omega⟩ := by
  funext a
  match a with
  | 0 =>
    apply Fin.ext
    show (k0_off1 L k) 0 + 1 * (x 0).val = 10112 * (2 * (L 1).val + (L 0).val) + 128 * k.val + (x 0).val
    rw [k0_off1_eq]
    show 20224 * (L 1).val + 10112 * (L 0).val + 128 * k.val + 1 * (x 0).val = _
    omega

/-- The same of the trip's rows of the result. -/
theorem oRow_emb0 (k : Fin k0_t1_loop.trips) (x : S128x128.Idx) :
    (((oRow L k).view.emb x : S323584x128.Idx) 0).val = 10112 * (wL L).val + 128 * k.val + (x 0).val := by
  show (k0_off2 L k) 0 + 1 * (x 0).val = 10112 * (2 * (L 1).val + (L 0).val) + 128 * k.val + (x 0).val
  rw [k0_off2_eq]
  show 20224 * (L 1).val + 10112 * (L 0).val + 128 * k.val + 1 * (x 0).val = _
  omega
/-- The column of an element of trip `k`'s rows is its own. -/
theorem oRow_emb1 (k : Fin k0_t1_loop.trips) (x : S128x128.Idx) :
    (((oRow L k).view.emb x : S323584x128.Idx) 1).val = (x 1).val := by
  show (k0_off2 L k) 1 + 1 * (x 1).val = _
  rw [k0_off2_eq]
  show 0 + 1 * (x 1).val = _
  omega

/-- Trip `k`'s rows of the result: the 128 from row `10112 w + 128 k` on, `w` being the task. -/
theorem mem_oRow (k : Fin k0_t1_loop.trips) (j : S323584x128.Idx) :
    j ∈ (oRow L k).view.set ↔ 10112 * (wL L).val + 128 * k.val ≤ (j 0).val ∧ (j 0).val < 10112 * (wL L).val + 128 * k.val + 128 := by
  constructor
  · intro h
    obtain ⟨x, -, hx⟩ := Finset.mem_map.mp h
    have h0 := oRow_emb0 L k x
    have hj : (j 0).val = (((oRow L k).view.emb x : S323584x128.Idx) 0).val := by
      have : ((oRow L k).view.emb x : S323584x128.Idx) = j := hx
      rw [this]
    have hx : (x 0).val < 128 := (x 0).isLt
    omega
  · rintro ⟨h1, h2⟩
    have hj : ((oRow L k).view.emb (ixR ⟨(j 0).val - (10112 * (wL L).val + 128 * k.val), by omega⟩ (j 1)) : S323584x128.Idx) = j := by
      funext a
      match a with
      | 0 =>
        apply Fin.ext; rw [oRow_emb0]
        show _ + ((j 0).val - (10112 * (wL L).val + 128 * k.val)) = _
        omega
      | 1 => apply Fin.ext; rw [oRow_emb1]
    rw [← hj]; exact View.emb_mem_set _ _

/-- They are among the task's. -/
theorem oRow_subset (k : Fin k0_t1_loop.trips) : (oRow L k).view.set ⊆ rowsOf (wL L) := by
  intro j hj
  rw [mem_oRow] at hj
  have hk : k.val < 79 := trips_eq ▸ k.isLt
  rw [mem_rowsOf]; omega

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The three transfers' semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable (tv : (d : Dev nD) → Buf (Elt F) (tLoc d)) (nv : (d : Dev nD) → Buf (Elt F) (nLoc d))

/-- Every entry of the list names a row of the table. -/
def InRange : Prop := ∀ (d : Dev nD) (j : S323584.Idx), (nv d j : BitVec 32).toNat < 10000

/-- What the index fetch landed in its scratch: the trip's entries of the list, each in range. -/
theorem inb_of_range (hr : InRange nv) (k : Fin k0_t1_loop.trips) (fs : Buf (Elt F) ((V d (cV L) (jV L)).loc cc0_scratch0)) (pay : S128.Idx → Elt F .i32)
    (hpay : pay = (nRow L k).view.read (Elt F) (nv d)) :
    ∀ x, ((sV).view.read (Elt F) (View.write (Elt F) (sV).view fs pay Finset.univ) x).toNat < S10000x128.size gathers_S10000x128_S128x128.axis := by
  subst hpay; intro x
  rw [View.write_whole_univ]
  simp only [Memref.view_whole, View.read_whole]
  rw [show ∀ j, (nRow L k).view.read (Elt F) (nv d) j = nv d ((nRow L k).view.emb j) from fun j => (View.read_apply _ _).trans (cast_eq _ _)]
  exact hr d _

/-- The gathered rows: entry `x` of the trip's 128 rows is the entry of `gath` at that place of the result. -/
theorem gather_value (hr : InRange nv) (k : Fin k0_t1_loop.trips) (fs : Buf (Elt F) ((V d (cV L) (jV L)).loc cc0_scratch0)) (pay : S128.Idx → Elt F .i32)
    (hpay : pay = (nRow L k).view.read (Elt F) (nv d)) (x : S128x128.Idx) :
    SparseCore.gatherPayload gathers_S10000x128_S128x128 ((tAll).view.read (Elt F) (tv d))
        (SparseCore.rows ((sV).view.read (Elt F) (View.write (Elt F) (sV).view fs pay Finset.univ)) rfl (inb_of_range d L nv hr k fs pay hpay)) x
      = gath (tv d) (nv d) ((oRow L k).view.emb x) := by
  subst hpay
  unfold SparseCore.gatherPayload
  rw [show ∀ j, (tAll).view.read (Elt F) (tv d) j = tv d ((tAll).view.emb j) from fun j => (View.read_apply _ _).trans (cast_eq _ _)]
  unfold gath
  refine congrArg (tv d) ?_
  funext a
  match a with
  | 0 =>
    apply Fin.ext
    show 0 + 1 * (gathers_S10000x128_S128x128.idx _ x gathers_S10000x128_S128x128.axis).val = min (nv d (ixN (((oRow L k).view.emb x : S323584x128.Idx) 0)) : BitVec 32).toNat 9999
    rw [Shape.Gathers.idx_axis]
    show 0 + 1 * (View.read (Elt F) (sV).view (View.write (Elt F) (sV).view fs ((nRow L k).view.read (Elt F) (nv d)) Finset.univ)
      (S128.rowMajor.symm ((x gathers_S10000x128_S128x128.axis').cast rfl)) : BitVec 32).toNat = _
    rw [View.write_whole_univ]
    simp only [Memref.view_whole, View.read_whole]
    rw [show ∀ j, (nRow L k).view.read (Elt F) (nv d) j = nv d ((nRow L k).view.emb j) from fun j => (View.read_apply _ _).trans (cast_eq _ _)]
    rw [nRow_emb]
    have hx : ((S128.rowMajor.symm ((x gathers_S10000x128_S128x128.axis').cast rfl)) 0).val = (x 0).val := by
      rw [← Shape.rowMajor_val_one, Equiv.apply_symm_apply]; rfl
    have hi : ∀ (r r' : Fin 323584), r = r' → nv d (ixN r) = nv d (ixN r') := fun r r' h => by rw [h]
    rw [hi _ (((oRow L k).view.emb x : S323584x128.Idx) 0) (Fin.ext (by rw [oRow_emb0]; simp only [hx]))]
    have h := hr d (ixN (((oRow L k).view.emb x : S323584x128.Idx) 0))
    rw [Nat.zero_add, Nat.one_mul]
    exact (Nat.min_eq_left (Nat.le_of_lt_succ h)).symm
  | 1 =>
    apply Fin.ext
    show 0 + 1 * (gathers_S10000x128_S128x128.idx _ x (1 : Fin 2)).val = (((oRow L k).view.emb x : S323584x128.Idx) 1).val
    rw [oRow_emb1, Shape.Gathers.idx_of_ne _ _ _ _ (by decide)]
    show 0 + 1 * (x 1).val = _
    omega

/-- The result buffer after trip `k`'s write-out of `w`. -/
def outW (fo : Buf (Elt F) (oLoc d)) (k : Fin k0_t1_loop.trips) (w : S128x128.Idx → Elt F .i32) : Buf (Elt F) (oLoc d) :=
  (oRow L k).view.writes (Elt F) fo [⟨Rect.whole S128x128, w⟩]

/-- Outside the trip's rows, the write-out leaves the result as it was, -/
theorem outW_off (fo : Buf (Elt F) (oLoc d)) (k : Fin k0_t1_loop.trips) (w : S128x128.Idx → Elt F .i32) (j : S323584x128.Idx)
    (h : j ∉ (oRow L k).view.set) : outW d L fo k w j = fo j :=
  View.writes_apply_of_forall_ne (v := (oRow L k).view) (Val := Elt F) (f := fo) _ (fun y hy => h (hy ▸ View.emb_mem_set _ _))

/-- After the write-out, written with the gathered rows: the trip's rows of the result are `gath`'s, the others as before. -/
theorem out_value (fo : Buf (Elt F) (oLoc d)) (k : Fin k0_t1_loop.trips) (w : S128x128.Idx → Elt F .i32)
    (hw : ∀ x, w x = gath (tv d) (nv d) ((oRow L k).view.emb x)) (hfo : ∀ j ∈ rowsOf (wL L), (j 0).val % 10112 < 128 * k.val → fo j = gath (tv d) (nv d) j) :
    ∀ j ∈ rowsOf (wL L), (j 0).val % 10112 < 128 * (k.val + 1) →
      outW d L fo k w j = gath (tv d) (nv d) j := by
  intro j hj hlt
  by_cases h : j ∈ (oRow L k).view.set
  · obtain ⟨x, -, rfl⟩ := Finset.mem_map.mp h
    have e := View.read_writes_cons_emb (Val := Elt F) (v := (oRow L k).view) (f := fo) (Rect.whole S128x128) w [] x
    rw [Rect.emb_whole_apply] at e
    rw [View.read_apply] at e
    exact ((cast_eq _ _).symm.trans e).trans (hw x)
  · rw [outW_off d L fo k w j h]
    refine hfo j hj ?_
    rw [mem_rowsOf] at hj
    rw [mem_oRow] at h
    have hk : k.val < 79 := trips_eq ▸ k.isLt
    omega

/-- so on the task's other rows too. -/
theorem out_rest (fo : Buf (Elt F) (oLoc d)) (k : Fin k0_t1_loop.trips) (w : S128x128.Idx → Elt F .i32) :
    ∀ j ∈ rowsOf (wL L) \ (oRow L k).view.set, fo j = outW d L fo k w j :=
  fun j hj => (outW_off d L fo k w j (Finset.mem_sdiff.mp hj).2).symm

/-- Before trip `k`: the task's shares, its rows of the result at the gathered table rows as far as the trips before went,
    its two scratches at some contents, its three semaphores at zero, its debts. -/
def inv (O : CellTallies nD τ sig (HIx 1)) (W : Waits sig (HIx 1)) (k : ℕ) : sProp 𝕄 :=
  iprop(((nV).view.loc (V d (cV L) (jV L)) ↦{piece 5 fullShare (wL L)} nv d)
    ∗ ((tV).view.loc (V d (cV L) (jV L)) ↦{piece 5 fullShare (wL L)} tv d)
    ∗ (∃ f : Buf (Elt F) (oLoc d), ⌜∀ j ∈ rowsOf (wL L), (j 0).val % 10112 < 128 * k → f j = gath (tv d) (nv d) j⌝ ∗ oPts d (wL L) f)
    ∗ (∃ fs, (sV).view.loc (V d (cV L) (jV L)) ↦{fullShare} fs)
    ∗ (∃ fr, (rV).view.loc (V d (cV L) (jV L)) ↦{fullShare} fr)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

variable [FloatOps F]

set_option maxHeartbeats 4000000 in
/-- One trip: the index fetch, the indirect gather, the write-out, each with its wait. -/
theorem trip (hr : InRange nv) (O : CellTallies nD τ sig (HIx 1)) (W : Waits sig (HIx 1)) (k : Fin k0_t1_loop.trips) :
    iprop(Transfers.MayWaits (V d (cV L) (jV L)) (default : HIx 1) O ∗ inv d L tv nv O W k.val)
      ⊢ wp frame (wpE (defs₀ (F := F)) 𝒱₀ (V d (cV L) (jV L)) none) Set.univ
          (k0_t1_body L tV (Memref.isWhole_whole _) nV (Memref.isWhole_whole _) oV (Memref.isWhole_whole _)
            sV (Memref.isWhole_whole _) rV (Memref.isWhole_whole _) cc0_scratch2 cc0_scoped0 cc0_scoped1 k ⟨⟩)
          fun _ => iprop(Transfers.MayWaits (V d (cV L) (jV L)) (default : HIx 1) O ∗ inv d L tv nv O W (k.val + 1)) := by
  unfold k0_t1_body
  iintro ⟨#Hmw, Hinv⟩
  unfold inv
  icases Hinv with ⟨Hn, Ht, ⟨%fo, %hfo, Ho⟩, ⟨%fs, Hs⟩, ⟨%fr, Hr⟩, HsemA, HsemB, HsemC, ⟨%W', %hW', HO⟩⟩
  ihave Hns := (pointsTo_split_subset (q := piece 5 fullShare (wL L)) (f := nv d) (S := Finset.univ) (Finset.subset_univ (nRow L k).view.set)).1 $$ Hn
  icases Hns with ⟨Hns, Hnr⟩
  ihave Hos := (pointsTo_split_subset (q := fullShare) (f := fo) (S := rowsOf (wL L)) (oRow_subset L k)).1 $$ Ho
  icases Hos with ⟨Hos, Hor⟩
  ihave Hn' := (Entails.of_eq (show (nLoc d ↦[(nRow L k).view.set]{piece 5 fullShare (wL L)} nv d : sProp 𝕄)
      = (nRow L k).view.loc (V d (cV L) (jV L)) ↦[(nRow L k).view.set]{piece 5 fullShare (wL L)} nv d from rfl)) $$ Hns
  ihave Ho' := (Entails.of_eq (show (oLoc d ↦[(oRow L k).view.set]{fullShare} fo : sProp 𝕄)
      = (oRow L k).view.loc (V d (cV L) (jV L)) ↦[(oRow L k).view.set]{fullShare} fo from rfl)) $$ Hos
  sl_exec
  ihave Hts := (pointsTo_split_subset (q := piece 5 fullShare (wL L)) (f := tv d) (S := Finset.univ) (Finset.subset_univ (tAll).view.set)).1 $$ Ht
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr
  ihave Hs'' := (Entails.of_eq (show ((sV).view.loc (V d (cV L) (jV L)) ↦{fullShare} View.write (Elt F) (sV).view fs (trip.sl.dma0 d L nv k) Finset.univ : sProp 𝕄)
      = (sV).view.loc (V d (cV L) (jV L)) ↦[(sV).view.set]{fullShare} View.write (Elt F) (sV).view fs (trip.sl.dma0 d L nv k) Finset.univ
      by rw [hss])) $$ Hs
  have hN : ∀ h : S10000x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S10000x128_S128x128) (default : HIx 1)
      (rV).view.dmaCredit (hN _) (by decide) (inb_of_range d L nv hr k fs _ rfl)) $$ [Hts Hr'' Hs'' HsemB]
  · isplitl [Hts]; · iexact Hts
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemB, HO⟩
  ihave Ht' := (pointsTo_split_subset (q := piece 5 fullShare (wL L)) (f := tv d) (S := Finset.univ) (Finset.subset_univ (tAll).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  ihave Hor' := (Entails.of_eq (pointsTo_congr (out_rest d L fo k (trip.sl.dma0_1 d L tv nv hr k fs fr)))) $$ Hor
  ihave Ho2 := (pointsTo_split_subset (ℓ := oLoc d) (q := fullShare) (f := outW d L fo k (trip.sl.dma0_1 d L tv nv hr k fs fr)) (oRow_subset L k)).2 $$ [Ho' Hor'];
  · isplitl [Ho']; · iexact Ho'
    iexact Hor'
  isplitr; · iexact Hmw
  isplitl [Hnr]; · iexact Hnr
  isplitl [Ht']; · iexact Ht'
  isplitl [Ho2]
  · iexists _; isplitr
    swap; · iexact Ho2
    ipureintro
    refine out_value d L tv nv fo k _ (fun x => ?_) hfo
    refine Eq.trans ?_ (gather_value d L tv nv hr k fs _ rfl x)
    show (rV).view.read (Elt F) (View.write (Elt F) (rV).view fr _ Finset.univ) x = _
    rw [View.read_write_univ]
  isplitl [Hs3]; · iexists _; iexact Hs3
  isplitl [Hr3]; · iexists _; iexact Hr3
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The task on vector subcore `(L 0, L 1)` of device `d`: the loop by its invariant. -/
theorem tile_body (hF : (K (F := F)).Facts) (hr : InRange nv) (O : CellTallies nD τ sig (HIx 1)) (W : Waits sig (HIx 1)) (hO : ∀ g, O g none = 0) :
    iprop(levAts (K (F := F)).L (K (F := F)).lev ∗ emp ∗ goR tv nv d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) nV (Memref.isWhole_whole _) oV (Memref.isWhole_whole _)
            sV (Memref.isWhole_whole _) rV (Memref.isWhole_whole _) cc0_scratch2 cc0_scoped0 cc0_scoped1)
          fun _ => iprop(tdR tv nv d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Ht, Hn, ⟨%fo, Ho⟩⟩, ⟨Hs, Hr, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (Scf.wp_for_bind frame (wpE (defs₀ (F := F)) 𝒱₀ (V d (cV L) (jV L)) none) Set.univ k0_t1_loop.lb k0_t1_loop.ub k0_t1_loop.st k0_t1_ok ⟨⟩ _
    (fun k _ => iprop(Transfers.MayWaits (V d (cV L) (jV L)) (default : HIx 1) O ∗ inv d L tv nv O W k))
    (fun k _ => trip d L tv nv hr O W k)) $$ [Ht Hn Ho Hs Hr HsemA HsemB HsemC HO]
  · isplitr; · iexact Hmw
    unfold inv
    isplitl [Hn]; · iexact Hn
    isplitl [Ht]; · iexact Ht
    isplitl [Ho]
    · iexists fo; isplitr
      · ipureintro; intro j _ h; exact absurd h (by omega)
      · iexact Ho
    isplitl [Hs]; · iexact Hs
    isplitl [Hr]; · iexact Hr
    isplitl [HsemA]; · iexact HsemA
    isplitl [HsemB]; · iexact HsemB
    isplitl [HsemC]; · iexact HsemC
    iexists W; isplitr
    · ipureintro; exact fun p hp => .inl hp
    · iexact HO
  iintro %_ ⟨-, Hi⟩
  unfold inv
  icases Hi with ⟨Hn, Ht, ⟨%f, %hf, Ho⟩, Hs, Hr, HsemA, HsemB, HsemC, HW⟩
  have hf' : ∀ j ∈ rowsOf (wL L), f j = gath (tv d) (nv d) j := fun j hj => hf j hj (by
    show _ < 128 * k0_t1_loop.trips
    rw [trips_eq]; have := Nat.mod_lt (j 0).val (show 0 < 10112 by omega); omega)
  ihave Ho' := (Entails.of_eq (show (oPts d (wL L) f : sProp 𝕄) = oPts d (wL L) (gath (tv d) (nv d)) from pointsTo_congr hf')) $$ Ho
  sl_exec
  sl_step
  isplitl [Hn Ht Ho']
  · isplitl [Ht]; · iexact Ht
    isplitl [Hn]; · iexact Hn
    iexact Ho'
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HW

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

omit d L tv nv in
/-- What a tile runs is the gather, at its core's and its own number. -/
theorem defs₀_vector (c : Fin τ.nSC) (s : Fin τ.nSub) :
    defs₀ (F := F) (.scVector c s) 0 ()
      = SparseCore.onTile hcore0 hsub0 (fun c s => cc0_gather_k (coordsV c s) tV (Memref.isWhole_whole _) nV (Memref.isWhole_whole _)
          oV (Memref.isWhole_whole _) sV (Memref.isWhole_whole _) rV (Memref.isWhole_whole _) cc0_scratch2 cc0_scoped0 cc0_scoped1) ⟨⟩ c s := rfl

omit [FloatOps F] d L tv nv in
/-- The waits recorded after a task may be weakened to those that the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
omit d L in
/-- Every task of the call meets its obligation. -/
theorem tileObl (hF : (K (F := F)).Facts) (hr : InRange nv) : (K (F := F)).TileObl (D (F := F)) 𝒱 (P tv nv) v₀ 0 := by
  intro d c i O W hO _ _
  simp only [show (P tv nv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tv nv hF hr O W hO).trans (wp_mono frame _ _ fun _ => obl_post)
-- ==== Proof.KernelIdeal.Region.lean ====
module

public import proofs.«01_k».proof.Proof.KernelIdeal.Body
public import Idealize.ShloMosaic.Lib.Pipeline.RegionsLoop
public import Idealize.ShloMosaic.Lib.Pipeline.Value
public import Idealize.ShloMosaic.Lib.Pipeline.FrameBody
public import Idealize.ShloMosaic.Lib.Tactic

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## The proof data of the dense pipeline, from a valuation of the core's buffers -/

/-- The pipeline's ghost state is the middle component of the certificate's algebra. -/
def EP : Emb UP 𝕄 :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP (F := F)).LandsIn (upEmb : UEmb _ 𝕄) := by unfold EP; infer_instance

/-- No pipeline of this program has a prefetched table. -/
abbrev adm : (p : Fin 1) → (pcfgs (F := F) p).Adm := fun p => (cfgs p).toPCfg_adm

variable (V : (c : Dev nD) → (b : Ref sig .tc) → Buf (Elt F) ((c : Thread nD τ).loc b))

/-- What each input window's block at grid point `t` reads from its array at the entry valuation. -/
abbrev in0 (c : Dev nD) (t : Fin cfg1.N) : S4096x128.Idx → Elt F .i32 := ((cfg1.win 0).blk t).view.read (Elt F) (V c (Pipeline.arrRef spec1 0))
abbrev in1 (c : Dev nD) (t : Fin cfg1.N) : S128x16.Idx → Elt F .f32 := ((cfg1.win 1).blk t).view.read (Elt F) (V c (Pipeline.arrRef spec1 1))
abbrev in2 (c : Dev nD) (t : Fin cfg1.N) : S16x16.Idx → Elt F .f32 := ((cfg1.win 2).blk t).view.read (Elt F) (V c (Pipeline.arrRef spec1 2))
abbrev in3 (c : Dev nD) (t : Fin cfg1.N) : S15x128x256.Idx → Elt F .bf16 := ((cfg1.win 3).blk t).view.read (Elt F) (V c (Pipeline.arrRef spec1 3))
abbrev in4 (c : Dev nD) (t : Fin cfg1.N) : S15x128x128.Idx → Elt F .bf16 := ((cfg1.win 4).blk t).view.read (Elt F) (V c (Pipeline.arrRef spec1 4))

/-- The block of the result the body leaves at grid point `t`. -/
def outB (c : Dev nD) (t : Fin cfg1.N) : S128x128.Idx → Elt F .f32 := tcOut (in0 V c t) (in1 V c t) (in2 V c t) (in3 V c t) (in4 V c t)

abbrev Φc (c : Dev nD) : sProp 𝕄 := Pipeline.scopedRest (Ix := HIx 1) (Name := ℕ) (U := UU) (Lvl := ℕ) (Val := Elt F) spec1 c

/-- The proof data: arrays at `V`, inputs' blocks left in place, the result's block at `outB`; nothing owed; the waits recorded
    before the pipeline at or below level `B`. -/
def dat (B : ℕ) (c : Dev nD) : Dat τ (Elt F) (HIx 1) ℕ UU ℕ cfg1 c where
  A w := V c (Pipeline.arrRef spec1 w)
  after w t := match w with
    | ⟨0, _⟩ => in0 V c t
    | ⟨1, _⟩ => in1 V c t
    | ⟨2, _⟩ => in2 V c t
    | ⟨3, _⟩ => in3 V c t
    | ⟨4, _⟩ => in4 V c t
    | ⟨5, _⟩ => outB V c t
  Φ _ := Φc c
  q _ := fullShare
  owed _ := 0
  recorded _ := {p | (K (F := F)).lev ((c : Thread nD τ), p.1) p.2 ≤ B}

def pdats (B : ℕ) : (p : Fin 1) → (c : Dev nD) → Dat τ (Elt F) (HIx 1) ℕ UU ℕ (Pipeline.pin (pcfgs (F := F)) adm p) c
  | ⟨0, _⟩ => fun c => dat V B c

/-- Each input window's buffer holds its block when the body runs. -/
theorem before0 (B : ℕ) (c : Dev nD) (t : Fin cfg1.N) (d : S4096x128.Idx → Elt F .i32) : (dat V B c).before 0 t d = in0 V c t :=
  (dat V B c).before_in_eq_fetched 0 rfl (fun _ => rfl) (fun _ _ _ => rfl) (fun _ => rfl) t d
/-- The same of window 1, the padded points, -/
theorem before1 (B : ℕ) (c : Dev nD) (t : Fin cfg1.N) (d : S128x16.Idx → Elt F .f32) : (dat V B c).before 1 t d = in1 V c t :=
  (dat V B c).before_in_eq_fetched 1 rfl (fun _ => rfl) (fun _ _ _ => rfl) (fun _ => rfl) t d
/-- of window 2, the coefficients, -/
theorem before2 (B : ℕ) (c : Dev nD) (t : Fin cfg1.N) (d : S16x16.Idx → Elt F .f32) : (dat V B c).before 2 t d = in2 V c t :=
  (dat V B c).before_in_eq_fetched 2 rfl (fun _ => rfl) (fun _ _ _ => rfl) (fun _ => rfl) t d
/-- of window 3, the concatenated weights, -/
theorem before3 (B : ℕ) (c : Dev nD) (t : Fin cfg1.N) (d : S15x128x256.Idx → Elt F .bf16) : (dat V B c).before 3 t d = in3 V c t :=
  (dat V B c).before_in_eq_fetched 3 rfl (fun _ => rfl) (fun _ _ _ => rfl) (fun _ => rfl) t d
/-- and of window 4, the weights' high parts. -/
theorem before4 (B : ℕ) (c : Dev nD) (t : Fin cfg1.N) (d : S15x128x128.Idx → Elt F .bf16) : (dat V B c).before 4 t d = in4 V c t :=
  (dat V B c).before_in_eq_fetched 4 rfl (fun _ => rfl) (fun _ _ _ => rfl) (fun _ => rfl) t d

/-- A whole buffer's `owns` is the buffer held at contents that read as stated. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [h.set_eq_univ]

/-- The body obligation: the six block buffers and the invariant taken apart, the body run, its post reassembled. -/
theorem body_obligation (B : ℕ) (c : Dev nD) : BodyObligation (dat V B c) (defs₀ (F := F)) 𝒱₀ none Set.univ := fun t => by
  rw [bigSep_W1, bigSep_W1]
  rw [show (dat V B c).Φ t.castSucc = Φc c from rfl, show (dat V B c).Φ t.succ = Φc c from rfl,
    show (dat V B c).owesAt none t.succ = (dat V B c).owesAt none t.castSucc from rfl]
  simp only [before0, before1, before2, before3, before4]
  iintro ⟨HΦ, Howes, ⟨%d0, H0⟩, ⟨%d1, H1⟩, ⟨%d2, H2⟩, ⟨%d3, H3⟩, ⟨%d4, H4⟩, ⟨%d5, H5⟩⟩
  ihave H0 := (Entails.of_eq (owns_pt c (win1_0.stage (cfg1.slots t 0)) (hstage1_0 ((cfg1.slots t 0).cast nbuf1_0)) _)) $$ H0
  icases H0 with ⟨%f0, %e0, H0⟩
  ihave H1 := (Entails.of_eq (owns_pt c (win1_1.stage (cfg1.slots t 1)) (hstage1_1 ((cfg1.slots t 1).cast nbuf1_1)) _)) $$ H1
  icases H1 with ⟨%f1, %e1, H1⟩
  ihave H2 := (Entails.of_eq (owns_pt c (win1_2.stage (cfg1.slots t 2)) (hstage1_2 ((cfg1.slots t 2).cast nbuf1_2)) _)) $$ H2
  icases H2 with ⟨%f2, %e2, H2⟩
  ihave H3 := (Entails.of_eq (owns_pt c (win1_3.stage (cfg1.slots t 3)) (hstage1_3 ((cfg1.slots t 3).cast nbuf1_3)) _)) $$ H3
  icases H3 with ⟨%f3, %e3, H3⟩
  ihave H4 := (Entails.of_eq (owns_pt c (win1_4.stage (cfg1.slots t 4)) (hstage1_4 ((cfg1.slots t 4).cast nbuf1_4)) _)) $$ H4
  icases H4 with ⟨%f4, %e4, H4⟩
  ihave H5 := (Entails.of_eq (owns_pt c (win1_5.stage (cfg1.slots t 5)) (hstage1_5 ((cfg1.slots t 5).cast nbuf1_5)) _)) $$ H5
  icases H5 with ⟨%f5, %e5, H5⟩
  iapply ((bodyRun c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) f0 f1 f2 f3 f4).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iapply (Entails.of_eq (owns_pt c (win1_0.stage (cfg1.slots t 0)) (hstage1_0 ((cfg1.slots t 0).cast nbuf1_0)) _).symm); iexists _; isplitr; swap; (· iexact H0); ipureintro; exact e0
  isplitl [H1]
  · iapply (Entails.of_eq (owns_pt c (win1_1.stage (cfg1.slots t 1)) (hstage1_1 ((cfg1.slots t 1).cast nbuf1_1)) _).symm); iexists _; isplitr; swap; (· iexact H1); ipureintro; exact e1
  isplitl [H2]
  · iapply (Entails.of_eq (owns_pt c (win1_2.stage (cfg1.slots t 2)) (hstage1_2 ((cfg1.slots t 2).cast nbuf1_2)) _).symm); iexists _; isplitr; swap; (· iexact H2); ipureintro; exact e2
  isplitl [H3]
  · iapply (Entails.of_eq (owns_pt c (win1_3.stage (cfg1.slots t 3)) (hstage1_3 ((cfg1.slots t 3).cast nbuf1_3)) _).symm); iexists _; isplitr; swap; (· iexact H3); ipureintro; exact e3
  isplitl [H4]
  · iapply (Entails.of_eq (owns_pt c (win1_4.stage (cfg1.slots t 4)) (hstage1_4 ((cfg1.slots t 4).cast nbuf1_4)) _).symm); iexists _; isplitr; swap; (· iexact H4); ipureintro; exact e4
  iapply (Entails.of_eq (owns_pt c (win1_5.stage (cfg1.slots t 5)) (hstage1_5 ((cfg1.slots t 5).cast nbuf1_5)) _).symm); iexists _; isplitr; swap; (· iexact H5); ipureintro; rw [bodyRun_read, e0, e1, e2, e3, e4]; rfl

/-! ## The result's array -/

/-- The grid has one dimension: a point is its coordinate. -/
theorem lin1 (t : Fin cfg1.N) : ((grid1.coords t) 0).val = t.val := by
  have h := t.isLt
  show (t.val / 1) % 79 = t.val
  rw [Nat.div_one]; exact Nat.mod_eq_of_lt (h)

/-- The grid point whose block holds row `r`, and the row within the block. -/
def rowPt (i : S10112x128.Idx) : Fin cfg1.N := ⟨(i 0).val / 128, by have h : (i 0).val < 10112 := (i 0).isLt; show _ < 79; omega⟩
def rowIn (i : S10112x128.Idx) : S128x128.Idx := fun | 0 => ⟨(i 0).val % 128, Nat.mod_lt _ (by decide)⟩ | 1 => i 1

/-- The result's array: block `t` of 128 rows is what the body leaves at point `t`. -/
def outArr (c : Dev nD) : S10112x128.Idx → Elt F .f32 := fun i => outB V c (rowPt i) (rowIn i)

/-- The grid's coordinate at step `t` is `t`. -/
theorem coordNat (t : Fin cfg1.N) : (BitVec.ofNat 32 ((grid1.coords t) 0).val).toNat = t.val := by
  rw [lin1, BitVec.toNat_ofNat]
  have h : t.val < 79 := t.isLt
  exact Nat.mod_eq_of_lt (by omega)

/-- Where element `y` of the result's block at point `t` sits in the array. -/
theorem blk5_emb0 (t : Fin cfg1.N) (y : S128x128.Idx) : ((((cfg1.win 5).blk t).view.emb y : S10112x128.Idx) 0).val = t.val * 128 + (y 0).val := by
  show (BitVec.ofNat 32 ((grid1.coords t) 0).val).toNat * 128 + 1 * (y 0).val = _
  rw [coordNat, Nat.one_mul]
/-- and its column the element's own. -/
theorem blk5_emb1 (t : Fin cfg1.N) (y : S128x128.Idx) : ((((cfg1.win 5).blk t).view.emb y : S10112x128.Idx) 1).val = (y 1).val := by
  show 0 * 128 + 1 * (y 1).val = _
  omega

/-- The block of an element of step `t`'s result block is `t`, -/
theorem rowPt_emb (t : Fin cfg1.N) (y : S128x128.Idx) : rowPt (((cfg1.win 5).blk t).view.emb y) = t := by
  apply Fin.ext
  show (((((cfg1.win 5).blk t).view.emb y : S10112x128.Idx) 0).val) / 128 = t.val
  have h : (y 0).val < 128 := (y 0).isLt
  rw [blk5_emb0]; omega
/-- and its place in the block is its own. -/
theorem rowIn_emb (t : Fin cfg1.N) (y : S128x128.Idx) : rowIn (((cfg1.win 5).blk t).view.emb y) = y := by
  have h : (y 0).val < 128 := (y 0).isLt
  funext a
  match a with
  | 0 => apply Fin.ext; show (((((cfg1.win 5).blk t).view.emb y : S10112x128.Idx) 0).val) % 128 = (y 0).val; rw [blk5_emb0]; omega
  | 1 => apply Fin.ext; exact blk5_emb1 t y

/-- The result's array after the pipeline. -/
theorem arrAt_out (B : ℕ) (c : Dev nD) : (dat V B c).arrAt 5 cfg1.N = outArr V c := by
  refine (dat V B c).arrAt_eq_of_cover 5 (outArr V c) (fun t _ => ?_) (fun i => ?_)
  · funext y
    show outB V c t y = outB V c (rowPt (((cfg1.win 5).blk t).view.emb y)) (rowIn (((cfg1.win 5).blk t).view.emb y))
    rw [rowPt_emb, rowIn_emb]
  · refine ⟨rowPt i, flush1_5 _, ?_⟩
    have e : ((cfg1.win 5).blk (rowPt i)).view.emb (rowIn i) = i := by
      funext a
      match a with
      | 0 =>
        apply Fin.ext
        refine (blk5_emb0 (rowPt i) (rowIn i)).trans ?_
        show ((i : S10112x128.Idx) 0).val / 128 * 128 + ((i : S10112x128.Idx) 0).val % 128 = _
        exact Nat.div_add_mod' _ _
      | 1 => exact Fin.ext (blk5_emb1 (rowPt i) (rowIn i))
    have h := View.emb_mem_set ((cfg1.win 5).blk (rowPt i)).view (rowIn i)
    rw [e] at h
    exact h

/-! ## The input blocks, element by element -/

/-- Rows of a block of `n` of them. -/
def gIx (t : Fin cfg1.N) (y : S4096x128.Idx) : S323584x128.Idx := fun
  | 0 => ⟨t.val * 4096 + (y 0).val, by have h : t.val < 79 := t.isLt; have h' : (y 0).val < 4096 := (y 0).isLt; show _ < 323584; omega⟩
  | 1 => y 1
def xIx (t : Fin cfg1.N) (y : S128x16.Idx) : S10112x16.Idx := fun
  | 0 => ⟨t.val * 128 + (y 0).val, by have h : t.val < 79 := t.isLt; have h' : (y 0).val < 128 := (y 0).isLt; show _ < 10112; omega⟩
  | 1 => y 1

/-- Step `t` reads its 4096 gathered rows, -/
theorem in0_eq (c : Dev nD) (t : Fin cfg1.N) : in0 V c t = fun y => V c main_v20 (gIx t y) := by
  funext y
  have e : ((cfg1.win 0).blk t).view.emb y = gIx t y := by
    funext a
    match a with
    | 0 =>
      apply Fin.ext
      show (BitVec.ofNat 32 ((grid1.coords t) 0).val).toNat * 4096 + 1 * (y 0).val = t.val * 4096 + (y 0).val
      rw [coordNat, Nat.one_mul]
    | 1 => apply Fin.ext; show 0 * 128 + 1 * (y 1).val = (y 1).val; omega
  exact congrArg (V c main_v20) e

/-- its 128 padded points, -/
theorem in1_eq (c : Dev nD) (t : Fin cfg1.N) : in1 V c t = fun y => V c main_v0 (xIx t y) := by
  funext y
  have e : ((cfg1.win 1).blk t).view.emb y = xIx t y := by
    funext a
    match a with
    | 0 =>
      apply Fin.ext
      show (BitVec.ofNat 32 ((grid1.coords t) 0).val).toNat * 128 + 1 * (y 0).val = t.val * 128 + (y 0).val
      rw [coordNat, Nat.one_mul]
    | 1 => apply Fin.ext; show 0 * 16 + 1 * (y 1).val = (y 1).val; omega
  exact congrArg (V c main_v0) e

/-- the whole table of coefficients, -/
theorem in2_eq (c : Dev nD) (t : Fin cfg1.N) : in2 V c t = V c main_v14 := by
  funext y
  have e : ((cfg1.win 2).blk t).view.emb y = y := by
    funext a
    match a with
    | 0 => apply Fin.ext; show 0 * 16 + 1 * (y 0).val = (y 0).val; omega
    | 1 => apply Fin.ext; show 0 * 16 + 1 * (y 1).val = (y 1).val; omega
  exact congrArg (V c main_v14) e

/-- all of the concatenated weights, -/
theorem in3_eq (c : Dev nD) (t : Fin cfg1.N) : in3 V c t = V c main_v19 := by
  funext y
  have e : ((cfg1.win 3).blk t).view.emb y = y := by
    funext a
    match a with
    | 0 => apply Fin.ext; show 0 * 15 + 1 * (y 0).val = (y 0).val; omega
    | 1 => apply Fin.ext; show 0 * 128 + 1 * (y 1).val = (y 1).val; omega
    | 2 => apply Fin.ext; show 0 * 256 + 1 * (y 2).val = (y 2).val; omega
  exact congrArg (V c main_v19) e

/-- and all of the weights' high parts. -/
theorem in4_eq (c : Dev nD) (t : Fin cfg1.N) : in4 V c t = V c main_v15 := by
  funext y
  have e : ((cfg1.win 4).blk t).view.emb y = y := by
    funext a
    match a with
    | 0 => apply Fin.ext; show 0 * 15 + 1 * (y 0).val = (y 0).val; omega
    | 1 => apply Fin.ext; show 0 * 128 + 1 * (y 1).val = (y 1).val; omega
    | 2 => apply Fin.ext; show 0 * 128 + 1 * (y 2).val = (y 2).val; omega
  exact congrArg (V c main_v15) e

/-- The block of the result at point `t`, from the arrays. -/
theorem outB_eq (c : Dev nD) (t : Fin cfg1.N) :
    outB V c t = tcOut (fun y => V c main_v20 (gIx t y)) (fun y => V c main_v0 (xIx t y)) (V c main_v14) (V c main_v19) (V c main_v15) := by
  unfold outB
  rw [in0_eq, in1_eq, in2_eq, in3_eq, in4_eq]

/-! ## The region -/

variable (Vp : (c : Dev nD) → (b : Ref sig .tc) → Buf (Elt F) ((c : Thread nD τ).loc b))

/-- What the core owes beside its buffers: nothing, its recorded waits at or below level `B`. -/
abbrev oweSt (B : ℕ) (c : Dev nD) : sProp 𝕄 :=
  iprop(∃ W, ⌜(K (F := F)).WBelow (c : Thread nD τ) W B⌝ ∗ owes (c : Thread nD τ) (0 : CellTallies nD τ sig (HIx 1)) W)

set_option backward.isDefEq.respectTransparency.types false in
/-- The dense pipeline over "every unscoped buffer at `V`": left with them at any `Vp` that has the result's array at `outArr` and
    agrees with `V` elsewhere. -/
def reg (B : ℕ) (hVp_out : ∀ c, Vp c main_v21 = outArr V c) (hVp_ne : ∀ c (b : Ref sig .tc), b ≠ main_v21 → Vp c b = V c b) :
    Pipeline.RegionSeg (pcfgs (F := F)) adm (pdats V B) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V B c).loose
  hwaits := Pipeline.hwaits_of_owed_zero _ _ _ _ (K (F := F)).L (K (F := F)).lev 0 fun _ _ => rfl
  pre c := iprop(unscopedBufs c (V c) ∗ oweSt B c)
  post c := iprop(unscopedBufs c (Vp c) ∗ oweSt B c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V B) launch1.win launch1.arr_whole c
      ((pdats V B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V B 0 c).Φ 0 = Φc c from rfl]
    iintro ⟨-, -, Hr⟩; iexact Hr
  hout c := by
    rw [Pipeline.ownSems0_none, show (pdats V B 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V B) ((pdats V B 0 c).share_full fun _ => rfl) (V c) (Vp c) ((pdats V B 0 c).arrAt · cfg1.N)
      (fun w => by
        fin_cases w
        · exact ((pdats V B 0 c).arrAt_in 0 rfl _).trans (hVp_ne c main_v20 (by decide)).symm
        · exact ((pdats V B 0 c).arrAt_in 1 rfl _).trans (hVp_ne c main_v0 (by decide)).symm
        · exact ((pdats V B 0 c).arrAt_in 2 rfl _).trans (hVp_ne c main_v14 (by decide)).symm
        · exact ((pdats V B 0 c).arrAt_in 3 rfl _).trans (hVp_ne c main_v19 (by decide)).symm
        · exact ((pdats V B 0 c).arrAt_in 4 rfl _).trans (hVp_ne c main_v15 (by decide)).symm
        · exact (arrAt_out V B c).trans (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

end Cert.KernelIdeal.Pf
end
-- ==== Proof.KernelIdeal.Host.lean ====
/-
  The program of the TensorCore around its two calls: the straight line of host operations in front of them, as a list,
  and what each buffer that the calls read holds when the line is done.
-/
module

public import proofs.«01_k».proof.Proof.KernelIdeal.Region
public import Idealize.ShloMosaic.Lib.StableHlo.RunRead

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.Sem
open Idealize.ShloMosaic.StableHlo (seq after)

variable {F : FTy → Type} [FloatOps F]

/-- Two one-element lists joined; two stacks of square matrices joined along their columns. -/
def catI (a b : S1.Idx → Elt F .i32) : S2.Idx → Elt F .i32 := concatenate S2 0 [⟨S1, a⟩, ⟨S1, b⟩] concatenates_S1_S1_S2_d0
def catW (a b : S15x128x128.Idx → Elt F .bf16) : S15x128x256.Idx → Elt F .bf16 :=
  concatenate S15x128x256 2 [⟨S15x128x128, a⟩, ⟨S15x128x128, b⟩] concatenates_S15x128x128_S15x128x128_S15x128x256_d2

/-- The host operations before the SparseCore call, in order. -/
def hostOps : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S10000x3, .f32⟩) main_call0.v0 main_call0.v1 (fun x v => pad S10112x16 ![0, 0] ![112, 13] ![0, 0] x v pads_S10000x3_S10112x16_01120_0130 h_S_),
    StableHlo.nullary main_c_0 (constantI S_ 32 0#32),
    StableHlo.TRef.unary (.of main_c_0 : StableHlo.TRef sig ⟨S_, .i32⟩) main_call1.v0 id,
    StableHlo.TRef.binary (.of main_arg2 : StableHlo.TRef sig ⟨S10000x32, .i32⟩) main_call1.v0 main_call1.v1 (fun x v => pad S10112x32 ![0, 0] ![112, 0] ![0, 0] x v pads_S10000x32_S10112x32_01120_000 h_S_),
    StableHlo.reshape main_v1 main_v2 (rfl : (.i32 : EltTy) = .i32) shapeCasts_S10112x32_S323584,
    StableHlo.nullary main_cst (constant S_ .f32 0x00000000#32),
    StableHlo.unary main_cst main_v3 (broadcastInDim S16x16 ![] bcast_S_S16x16 : (⟨S_, .f32⟩ : BufTy).Contents (Elt F) → (⟨S16x16, .f32⟩ : BufTy).Contents (Elt F)),
    StableHlo.unary main_arg3 main_v4 ((transpose S3x15 [1, 0] · transposes_S15x3_S3x15_1_0) : (⟨S15x3, .f32⟩ : BufTy).Contents (Elt F) → (⟨S3x15, .f32⟩ : BufTy).Contents (Elt F)),
    StableHlo.nullary main_c_1 (constantI S_ 32 0#32),
    StableHlo.unary main_c_1 main_v5 (broadcastInDim S1 ![] bcast_S_S1 : (⟨S_, .i32⟩ : BufTy).Contents (Elt F) → (⟨S1, .i32⟩ : BufTy).Contents (Elt F)),
    StableHlo.nullary main_c_2 (constantI S_ 32 0#32),
    StableHlo.unary main_c_2 main_v6 (broadcastInDim S1 ![] bcast_S_S1 : (⟨S_, .i32⟩ : BufTy).Contents (Elt F) → (⟨S1, .i32⟩ : BufTy).Contents (Elt F)),
    StableHlo.binary main_v5 main_v6 main_v7 (catI : (⟨S1, .i32⟩ : BufTy).Contents (Elt F) → (⟨S1, .i32⟩ : BufTy).Contents (Elt F) → (⟨S2, .i32⟩ : BufTy).Contents (Elt F)),
    StableHlo.ternary main_v3 main_v7 main_v4 main_v8 ((fun x i u => Host.scatter scatter_S16x16_S2_S3x15_01_n_01_0 (fun _ b => b) x i u) : (⟨S16x16, .f32⟩ : BufTy).Contents (Elt F) → (⟨S2, .i32⟩ : BufTy).Contents (Elt F) → (⟨S3x15, .f32⟩ : BufTy).Contents (Elt F) → (⟨S16x16, .f32⟩ : BufTy).Contents (Elt F)),
    StableHlo.binary main_arg3 main_arg3 main_v9 (mulf : (⟨S15x3, .f32⟩ : BufTy).Contents (Elt F) → (⟨S15x3, .f32⟩ : BufTy).Contents (Elt F) → (⟨S15x3, .f32⟩ : BufTy).Contents (Elt F)),
    StableHlo.nullary main_cst_3 (constant S_ .f32 0x00000000#32),
    StableHlo.binary main_v9 main_cst_3 main_v10 ((fun x v => Host.reduceAdd x v reducesTo_S15x3_S15_d1 h_S_) : (⟨S15x3, .f32⟩ : BufTy).Contents (Elt F) → (⟨S_, .f32⟩ : BufTy).Contents (Elt F) → (⟨S15, .f32⟩ : BufTy).Contents (Elt F)),
    StableHlo.nullary main_c_4 (constantI S_ 32 3#32),
    StableHlo.unary main_c_4 main_v11 (broadcastInDim S1 ![] bcast_S_S1 : (⟨S_, .i32⟩ : BufTy).Contents (Elt F) → (⟨S1, .i32⟩ : BufTy).Contents (Elt F)),
    StableHlo.nullary main_c_5 (constantI S_ 32 0#32),
    StableHlo.unary main_c_5 main_v12 (broadcastInDim S1 ![] bcast_S_S1 : (⟨S_, .i32⟩ : BufTy).Contents (Elt F) → (⟨S1, .i32⟩ : BufTy).Contents (Elt F)),
    StableHlo.binary main_v11 main_v12 main_v13 (catI : (⟨S1, .i32⟩ : BufTy).Contents (Elt F) → (⟨S1, .i32⟩ : BufTy).Contents (Elt F) → (⟨S2, .i32⟩ : BufTy).Contents (Elt F)),
    StableHlo.ternary main_v8 main_v13 main_v10 main_v14 ((fun x i u => Host.scatter scatter_S16x16_S2_S15_0_0_01_0 (fun _ b => b) x i u) : (⟨S16x16, .f32⟩ : BufTy).Contents (Elt F) → (⟨S2, .i32⟩ : BufTy).Contents (Elt F) → (⟨S15, .f32⟩ : BufTy).Contents (Elt F) → (⟨S16x16, .f32⟩ : BufTy).Contents (Elt F)),
    StableHlo.unary main_arg4 main_v15 ((truncf .bf16 · bitsLt_bf16_f32) : (⟨S15x128x128, .f32⟩ : BufTy).Contents (Elt F) → (⟨S15x128x128, .bf16⟩ : BufTy).Contents (Elt F)),
    StableHlo.unary main_v15 main_v16 ((extf .f32 · bitsLt_bf16_f32) : (⟨S15x128x128, .bf16⟩ : BufTy).Contents (Elt F) → (⟨S15x128x128, .f32⟩ : BufTy).Contents (Elt F)),
    StableHlo.binary main_arg4 main_v16 main_v17 (subf : (⟨S15x128x128, .f32⟩ : BufTy).Contents (Elt F) → (⟨S15x128x128, .f32⟩ : BufTy).Contents (Elt F) → (⟨S15x128x128, .f32⟩ : BufTy).Contents (Elt F)),
    StableHlo.unary main_v17 main_v18 ((truncf .bf16 · bitsLt_bf16_f32) : (⟨S15x128x128, .f32⟩ : BufTy).Contents (Elt F) → (⟨S15x128x128, .bf16⟩ : BufTy).Contents (Elt F)),
    StableHlo.binary main_v15 main_v18 main_v19 (catW : (⟨S15x128x128, .bf16⟩ : BufTy).Contents (Elt F) → (⟨S15x128x128, .bf16⟩ : BufTy).Contents (Elt F) → (⟨S15x128x256, .bf16⟩ : BufTy).Contents (Elt F)) ]

/-- The last host operation: the first ten thousand rows. -/
def lastOp : HloOp τ sig (Elt F) :=
  StableHlo.unary main_v21 main_v22 ((extractStridedSlice S10000x128 ![0, 0] · slices_S10112x128_S10000x128_0_0) : (⟨S10112x128, .f32⟩ : BufTy).Contents (Elt F) → (⟨S10000x128, .f32⟩ : BufTy).Contents (Elt F))

/-- The TensorCore's program: the line, the SparseCore call, the dense pipeline, the last operation. -/
theorem main_eq (d : Dev nD) : main (F := F) d
    = seq hostOps >>= fun _ => (sc (F := F)).run d 0 >>= fun _ =>
        Prog.lift (.customCall (SparseCore.inner (Pipeline.entry 0)) ()) >>= fun _ => hlo rfl lastOp (fun _ => .ret ⟨⟩) := by
  rfl

/-- A buffer that is not scoped is among the unscoped ones. -/
theorem mem_uc (r : Ref sig .tc) (h : ¬ r.isScoped) : Proc.devRef (τ := τ) .tc r ∈ Pipeline.ucRefs τ sig :=
  Finset.mem_filter.mpr ⟨Finset.mem_map.mpr ⟨r, Finset.mem_univ _, rfl⟩, h⟩

/-- One unscoped buffer, as a set of unscoped buffers. -/
theorem uc1 {a : DevRef τ sig} (ha : a ∈ Pipeline.ucRefs τ sig) : ({a} : Finset (DevRef τ sig)) ⊆ Pipeline.ucRefs τ sig :=
  Finset.singleton_subset_iff.mpr ha
/-- An unscoped buffer put into a set of unscoped buffers. -/
theorem ucI {a : DevRef τ sig} {s : Finset (DevRef τ sig)} (ha : a ∈ Pipeline.ucRefs τ sig) (hs : s ⊆ Pipeline.ucRefs τ sig) :
    insert a s ⊆ Pipeline.ucRefs τ sig := Finset.insert_subset ha hs

/-- The host operations before the calls touch unscoped buffers only. -/
theorem hostOps_sub : ∀ op ∈ hostOps (F := F), op.bufs ⊆ Pipeline.ucRefs τ sig :=
  List.forall_iff_forall_mem.mp ⟨uc1 (mem_uc main_c (by decide)),
    ucI (mem_uc main_c (by decide)) (uc1 (mem_uc main_call0_v0 (by decide))),
    ucI (mem_uc main_arg1 (by decide)) (ucI (mem_uc main_call0_v0 (by decide)) (uc1 (mem_uc main_v0 (by decide)))),
    uc1 (mem_uc main_c_0 (by decide)),
    ucI (mem_uc main_c_0 (by decide)) (uc1 (mem_uc main_call1_v0 (by decide))),
    ucI (mem_uc main_arg2 (by decide)) (ucI (mem_uc main_call1_v0 (by decide)) (uc1 (mem_uc main_v1 (by decide)))),
    ucI (mem_uc main_v1 (by decide)) (uc1 (mem_uc main_v2 (by decide))),
    uc1 (mem_uc main_cst (by decide)),
    ucI (mem_uc main_cst (by decide)) (uc1 (mem_uc main_v3 (by decide))),
    ucI (mem_uc main_arg3 (by decide)) (uc1 (mem_uc main_v4 (by decide))),
    uc1 (mem_uc main_c_1 (by decide)),
    ucI (mem_uc main_c_1 (by decide)) (uc1 (mem_uc main_v5 (by decide))),
    uc1 (mem_uc main_c_2 (by decide)),
    ucI (mem_uc main_c_2 (by decide)) (uc1 (mem_uc main_v6 (by decide))),
    ucI (mem_uc main_v5 (by decide)) (ucI (mem_uc main_v6 (by decide)) (uc1 (mem_uc main_v7 (by decide)))),
    ucI (mem_uc main_v3 (by decide)) (ucI (mem_uc main_v7 (by decide)) (ucI (mem_uc main_v4 (by decide)) (uc1 (mem_uc main_v8 (by decide))))),
    ucI (mem_uc main_arg3 (by decide)) (ucI (mem_uc main_arg3 (by decide)) (uc1 (mem_uc main_v9 (by decide)))),
    uc1 (mem_uc main_cst_3 (by decide)),
    ucI (mem_uc main_v9 (by decide)) (ucI (mem_uc main_cst_3 (by decide)) (uc1 (mem_uc main_v10 (by decide)))),
    uc1 (mem_uc main_c_4 (by decide)),
    ucI (mem_uc main_c_4 (by decide)) (uc1 (mem_uc main_v11 (by decide))),
    uc1 (mem_uc main_c_5 (by decide)),
    ucI (mem_uc main_c_5 (by decide)) (uc1 (mem_uc main_v12 (by decide))),
    ucI (mem_uc main_v11 (by decide)) (ucI (mem_uc main_v12 (by decide)) (uc1 (mem_uc main_v13 (by decide)))),
    ucI (mem_uc main_v8 (by decide)) (ucI (mem_uc main_v13 (by decide)) (ucI (mem_uc main_v10 (by decide)) (uc1 (mem_uc main_v14 (by decide))))),
    ucI (mem_uc main_arg4 (by decide)) (uc1 (mem_uc main_v15 (by decide))),
    ucI (mem_uc main_v15 (by decide)) (uc1 (mem_uc main_v16 (by decide))),
    ucI (mem_uc main_arg4 (by decide)) (ucI (mem_uc main_v16 (by decide)) (uc1 (mem_uc main_v17 (by decide)))),
    ucI (mem_uc main_v17 (by decide)) (uc1 (mem_uc main_v18 (by decide))),
    ucI (mem_uc main_v15 (by decide)) (ucI (mem_uc main_v18 (by decide)) (uc1 (mem_uc main_v19 (by decide))))⟩

/-- They allocate nothing. -/
theorem hostOps_fresh : ∀ op ∈ hostOps (F := F), op.fresh = ∅ :=
  List.forall_iff_forall_mem.mp (StableHlo.forall_fresh_of_map rfl)

end Cert.KernelIdeal.Pf

end
-- ==== Proof.KernelIdeal.Run.lean ====
/-
  The whole program run: the TensorCore's host operations, the SparseCore call, the dense pipeline and the last slice,
  under the launch of all the threads. Here: what every buffer of a device holds at the end, as a valuation; and the
  program's run, which ends with the memory at that valuation and every semaphore at zero.
-/
module

public import proofs.«01_k».proof.Proof.KernelIdeal.Task
public import proofs.«01_k».proof.Proof.KernelIdeal.Host

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (seq after held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The memory, step by step -/

/-- At the launch. -/
def V0 (d : Dev nD) : Valuation τ sig (Elt F) := fun b => m (d, b)
/-- After the host operations. -/
def V1 (d : Dev nD) : Valuation τ sig (Elt F) := after hostOps (V0 m d)
/-- The table and the list that the SparseCore call reads. -/
def tv (d : Dev nD) : Buf (Elt F) (tLoc d) := V1 m d main_arg0
def nv (d : Dev nD) : Buf (Elt F) (nLoc d) := V1 m d main_v2
/-- After the SparseCore call: the gathered rows in its result. -/
def V2 (d : Dev nD) : Valuation τ sig (Elt F) := Function.update (V1 m d) (Proc.devRef .tc main_v20) (gath (tv m d) (nv m d))
/-- After the dense pipeline: its result, block by block. -/
def V3 (d : Dev nD) : Valuation τ sig (Elt F) :=
  Function.update (V2 m d) (Proc.devRef .tc main_v21) (outArr (fun c b => V2 m c (Proc.devRef .tc b)) d)
/-- At the end. -/
def V4 (d : Dev nD) : Valuation τ sig (Elt F) := lastOp.result (V3 m d)

/-- The SparseCore call's result holds the gathered rows, -/
theorem V2_v20 (d : Dev nD) : V2 m d main_v20 = gath (tv m d) (nv m d) := Function.update_self ..
/-- and every other buffer is as before that call. -/
theorem V2_ne (d : Dev nD) (b : DevRef τ sig) (h : b ≠ Proc.devRef .tc main_v20) : V2 m d b = V1 m d b := Function.update_of_ne h ..
/-- The TensorCore call's result holds its blocks, -/
theorem V3_v21 (d : Dev nD) : V3 m d main_v21 = outArr (fun c b => V2 m c (Proc.devRef .tc b)) d := Function.update_self ..
/-- and every other buffer is as before that call. -/
theorem V3_ne (d : Dev nD) (b : DevRef τ sig) (h : b ≠ Proc.devRef .tc main_v21) : V3 m d b = V2 m d b := Function.update_of_ne h ..

/-! ## The SparseCore call's arrays, dealt to its thirty-two tasks and collected -/

/-- Core and tile to task, a bijection. -/
def widE : Fin 2 × Fin 16 ≃ Fin (2 ^ 5) where
  toFun p := wid p.1 p.2
  invFun w := (⟨w.val % 2, by omega⟩, ⟨w.val / 2, by have := w.isLt; omega⟩)
  left_inv p := by
    obtain ⟨⟨a, ha⟩, ⟨b, hb⟩⟩ := p
    refine Prod.ext (Fin.ext ?_) (Fin.ext ?_) <;> simp only <;> omega
  right_inv w := by apply Fin.ext; simp only; omega

omit [FloatOps F] in
/-- What is held of every core's every tile is held of every task. -/
theorem bigSep_wid (Φ : Fin (2 ^ 5) → sProp 𝕄) :
    (bigSep Finset.univ fun c : Fin 2 => bigSep Finset.univ fun s : Fin 16 => Φ (wid c s)) = bigSep Finset.univ Φ := by
  rw [bigSep_univ_equiv widE Φ, bigSep_univ_prod]; rfl

omit [FloatOps F] in
/-- The gather's result array is its tasks' rows, put together. -/
theorem oPts_rows (d : Dev nD) (f : Buf (Elt F) (oLoc d)) :
    (oLoc d ↦{fullShare} f : sProp 𝕄) = bigSep Finset.univ fun w => oPts d w f := by
  rw [← pointsTo_biUnion Finset.univ (ℓ := oLoc d) rowsOf rowsOf_disjoint, rowsOf_cover]

section Deal

variable (t : (d : Dev nD) → Buf (Elt F) (tLoc d)) (n : (d : Dev nD) → Buf (Elt F) (nLoc d))

omit [FloatOps F] in
/-- The table, the list and the result array, held whole, are dealt to the tasks: read shares of the first two, its own rows of the third. -/
theorem deal (d : Dev nD) (f : Buf (Elt F) (oLoc d)) :
    iprop((tLoc d ↦{fullShare} t d) ∗ (nLoc d ↦{fullShare} n d) ∗ (oLoc d ↦{fullShare} f))
      ⊢ (bigSep Finset.univ fun c : Fin ((K (F := F)).nCore 0) => (P t n).st 0 d c : sProp 𝕄) := by
  show _ ⊢ (bigSep Finset.univ fun c : Fin 2 => bigSep Finset.univ fun s : Fin 16 => goR t n d (wid c s) : sProp 𝕄)
  rw [bigSep_wid (fun w => goR t n d w), bigSep_sep', bigSep_sep', pointsTo_pieces2 Finset.univ (t d) 5 fullShare,
    pointsTo_pieces2 Finset.univ (n d) 5 fullShare, oPts_rows]
  iintro ⟨Ht, Hn, Ho⟩
  isplitl [Ht]; · iexact Ht
  isplitl [Hn]; · iexact Hn
  have h : (bigSep Finset.univ fun w => oPts d w f : sProp 𝕄) ⊢ bigSep Finset.univ fun w => iprop(∃ f, oPts d w f) :=
    bigSep_mono fun w _ => by
      show (oPts d w f : sProp 𝕄) ⊢ iprop(∃ f, oPts d w f)
      iintro H; iexists f; iexact H
  iapply h; iexact Ho

omit [FloatOps F] in
/-- The tasks' shares and rows, these holding the gathered rows, are collected into the three arrays, held whole. -/
theorem collect (d : Dev nD) :
    (bigSep Finset.univ fun c : Fin ((K (F := F)).nCore 0) => (P t n).dn 0 d c : sProp 𝕄)
      ⊢ iprop((tLoc d ↦{fullShare} t d) ∗ (nLoc d ↦{fullShare} n d) ∗ (oLoc d ↦{fullShare} gath (t d) (n d))) := by
  show (bigSep Finset.univ fun c : Fin 2 => bigSep Finset.univ fun s : Fin 16 => tdR t n d (wid c s) : sProp 𝕄) ⊢ _
  rw [bigSep_wid (fun w => tdR t n d w), bigSep_sep', bigSep_sep', pointsTo_pieces2 Finset.univ (t d) 5 fullShare,
    pointsTo_pieces2 Finset.univ (n d) 5 fullShare, oPts_rows]

end Deal

/-- The three buffers of the SparseCore call. -/
def scBufs : Finset (DevRef τ sig) := {Proc.devRef .tc main_arg0, Proc.devRef .tc main_v2, Proc.devRef .tc main_v20}

/-- The three arrays of the SparseCore call are unscoped buffers. -/
theorem scBufs_sub : scBufs ⊆ Pipeline.ucRefs τ sig :=
  ucI (mem_uc main_arg0 (by decide)) (ucI (mem_uc main_v2 (by decide)) (uc1 (mem_uc main_v20 (by decide))))

omit [FloatOps F] in
/-- Holding the three is holding each. -/
theorem held_sc (d : Dev nD) (W : Valuation τ sig (Elt F)) :
    (held (d : Thread nD τ) scBufs W : sProp 𝕄)
      = iprop((tLoc d ↦{fullShare} W main_arg0) ∗ (nLoc d ↦{fullShare} W main_v2) ∗ (oLoc d ↦{fullShare} W main_v20)) := by
  unfold held scBufs
  rw [SparseCore.bigSep_insert' (by decide), SparseCore.bigSep_insert' (by decide), bigSep_singleton]

/-- All the unscoped buffers after the host operations: the SparseCore call's three and the rest; -/
theorem held_split1 (d : Dev nD) : (held (d : Thread nD τ) (Pipeline.ucRefs τ sig) (V1 m d) : sProp 𝕄)
    = iprop(((tLoc d ↦{fullShare} tv m d) ∗ (nLoc d ↦{fullShare} nv m d) ∗ (oLoc d ↦{fullShare} V1 m d main_v20))
        ∗ held (d : Thread nD τ) (Pipeline.ucRefs τ sig \ scBufs) (V1 m d)) := by
  rw [StableHlo.held_sub_split (d : Thread nD τ) scBufs_sub, held_sc]; rfl
/-- and after the call. -/
theorem held_split2 (d : Dev nD) : (held (d : Thread nD τ) (Pipeline.ucRefs τ sig) (V2 m d) : sProp 𝕄)
    = iprop(((tLoc d ↦{fullShare} tv m d) ∗ (nLoc d ↦{fullShare} nv m d) ∗ (oLoc d ↦{fullShare} gath (tv m d) (nv m d)))
        ∗ held (d : Thread nD τ) (Pipeline.ucRefs τ sig \ scBufs) (V1 m d)) := by
  rw [StableHlo.held_sub_split (d : Thread nD τ) scBufs_sub, held_sc, V2_v20, V2_ne m d main_arg0 (by decide), V2_ne m d main_v2 (by decide),
    StableHlo.held_congr (d : Thread nD τ) (S := Pipeline.ucRefs τ sig \ scBufs) fun b hb => V2_ne m d b fun e =>
      (Finset.mem_sdiff.mp hb).2 (by rw [e]; unfold scBufs; simp)]
  rfl

/-! ## The launch element of the certificate's ghost state -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the dense pipeline on device `d` is entered with. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- Nothing, held of every index, is nothing. -/
theorem bigSep_emp' {I : Type} (s : Finset I) : (bigSep s fun _ => iprop(emp)) = (iprop(emp) : sProp 𝕄) := bigSep_emp_const s

/-- The launch element yields what the handshakes and the pipeline start from. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (F := F) (tv m) (nv m)).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP := (show (BI.own ((Emb.inl.trans (embR : Emb (UP × Counters) 𝕄)) (initOf (Pipeline.cells (Pipeline.pin (pcfgs (F := F)) adm) cellOf_inj) (Pipeline.launchToks (Pipeline.pin (pcfgs (F := F)) adm) cellOf_inj))) : sProp 𝕄)
    ⊢ BI.own (EP (initOf (Pipeline.cells (Pipeline.pin (pcfgs (F := F)) adm) cellOf_inj) (Pipeline.launchToks (Pipeline.pin (pcfgs (F := F)) adm) cellOf_inj))) from .rfl) $$ HP
  imod (Pipeline.fund_ghost (Pipeline.pin (pcfgs (F := F)) adm) EP cellOf_inj) $$ HP with ⟨Hg, Ht⟩
  imodintro
  isplitl [HH]; · iexact HH
  isplitl [Hg Ht]
  · have h1 : (bigSep Finset.univ fun d : Dev nD => bigSep Finset.univ fun p : Fin 1 => (Pipeline.cellsGhost (Pipeline.pin (pcfgs (F := F)) adm) EP p d : sProp 𝕄))
        = bigSep Finset.univ fun d : Dev nD => Pipeline.cellsGhost (Pipeline.pin (pcfgs (F := F)) adm) EP 0 d :=
      bigSep_congr fun _ _ => bigSep_univ_of_subsingleton (0 : Fin 1)
    have h2 : (bigSep Finset.univ fun d : Dev nD => bigSep Finset.univ fun p : Fin 1 => (Pipeline.toksInit (Pipeline.pin (pcfgs (F := F)) adm) EP p d : sProp 𝕄))
        = bigSep Finset.univ fun d : Dev nD => Pipeline.toksInit (Pipeline.pin (pcfgs (F := F)) adm) EP 0 d :=
      bigSep_congr fun _ _ => bigSep_univ_of_subsingleton (0 : Fin 1)
    rw [bigSep_sep', ← h1, ← h2]
    isplitl [Hg] <;> iassumption
  rw [show (bigSep Finset.univ fun thr : Thread nD τ => bigSep Finset.univ fun q : Fin 1 => (P (F := F) (tv m) (nv m)).x q thr) = bigSep Finset.univ fun _ => iprop(emp) from
    bigSep_congr fun _ _ => bigSep_univ_of_subsingleton (0 : Fin 1), bigSep_emp']
  iempintro

/-! ## @main on the TensorCore -/

/-- The level below which every wait of the calls done so far lies. -/
abbrev Bz : ℕ := 8

/-- The dense pipeline's region from the memory after the SparseCore call. -/
abbrev regV := reg (fun c b => V2 m c (Proc.devRef .tc b)) (fun c b => V3 m c (Proc.devRef .tc b)) Bz (fun c => V3_v21 m c)
  (fun c b h => V3_ne m c _ fun e => h (Proc.devRef_injective _ e))

/-- What the TensorCore call's region is entered with, -/
theorem regV_pre (d : Dev nD) : (regV m).pre d = iprop(unscopedBufs d (fun b => V2 m d (Proc.devRef .tc b)) ∗ oweSt Bz d) := rfl
/-- and what it is left with. -/
theorem regV_post (d : Dev nD) : (regV m).post d = iprop(unscopedBufs d (fun b => V3 m d (Proc.devRef .tc b)) ∗ oweSt Bz d) := rfl

omit [FloatOps F] in
/-- After its one call the TensorCore owes nothing. -/
theorem Otc_one (d : Dev nD) : (K (F := F)).Otc d 1 = 0 := by
  unfold SparseCore.Cfg.Otc
  exact Finset.sum_eq_zero fun q _ => if_neg (by omega)

/-- The cut of the result touches unscoped buffers only. -/
theorem lastOp_sub : (lastOp (F := F)).bufs ⊆ Pipeline.ucRefs τ sig :=
  ucI (mem_uc main_v21 (by decide)) (uc1 (mem_uc main_v22 (by decide)))

/-- What @main ends holding: every unscoped buffer, at the final valuation. -/
abbrev FIN (d : Dev nD) : sProp 𝕄 := held (d : Thread nD τ) (Pipeline.ucRefs τ sig) (V4 m d)

/-- The TensorCore's program: the host operations, the SparseCore call, the TensorCore call, the cut; at its end the memory is `V4`. -/
theorem hmain [∀ e, Nonempty (Elt F e)] (κ : GSem nD τ sig → ℕ) (d : Dev nD) :
    iprop((K (F := F)).ctx EH (P (tv m) (nv m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b)) = unscopedBufs (Ix := HIx 1) (Name := ℕ) (U := UU) (Lvl := ℕ) d (fun b => V0 m d b) from rfl,
    Pipeline.unscopedBufs_held]
  iintro ⟨#Hctx, Hst, ⟨Hb, Hbufs, Hts, -⟩, Hg, Htk⟩
  iapply (StableHlo.wp_seq 𝒱 none Set.univ d (Pipeline.ucRefs τ sig) _ hostOps hostOps_sub hostOps_fresh (V0 m d)) $$ [Hb Hbufs]
  · isplitl [Hb] <;> iassumption
  rw [show after hostOps (V0 m d) = V1 m d from rfl]
  iintro ⟨Hb, Hbufs⟩
  ihave Hbufs' := (Entails.of_eq (held_split1 m d)) $$ Hbufs
  icases Hbufs' with ⟨Hsc, Hrest⟩
  rw [wp_bind]
  iapply ((K (F := F)).wp_run (D (F := F)) 𝒱 (EH := EH) (P := P (tv m) (nv m)) κ d 0) $$ [-]
  isplitr; · iexact Hctx
  isplitl [Hst]; · iexact Hst
  isplitl [Hsc]; · iapply (deal (tv m) (nv m) d (V1 m d main_v20)); iexact Hsc
  iintro ⟨Hst, Hdn⟩
  ihave Hsc := (collect (tv m) (nv m) d) $$ Hdn
  ihave Hbufs := (Entails.of_eq (held_split2 m d).symm) $$ [Hsc Hrest]
  · isplitl [Hsc] <;> iassumption
  unfold SparseCore.Cfg.tcSt
  icases Hst with ⟨HO, Hst⟩
  ihave #Hlev := (SparseCore.Cfg.ctx_levAts κ) $$ Hctx
  rw [wp_bind]
  iapply ((K (F := F)).wp_liftProg (D (F := F)) 𝒱 (SparseCore.T d) Set.univ none (.op (.customCall (Pipeline.entry 0) ()) .ret) _)
  iapply (Pipeline.RegionSeg.wp (pcfgs (F := F)) adm _ none cellOf_inj EP (defs₀ (F := F)) 𝒱₀ (K (F := F)).L (K (F := F)).lev (regV m) d none (fun u hu => nomatch hu) _ _) $$ [-]
  isplitr [Hb Hbufs HO Hg Htk]
  swap
  · isplitl [Hb]; · iexact Hb
    isplitl [Hbufs HO]
    · rw [regV_pre]
      isplitl [Hbufs]
      · iapply (Entails.of_eq (Pipeline.unscopedBufs_held d (V2 m d)).symm); iexact Hbufs
      · icases HO with ⟨%W, %hW, HO⟩
        iexists W
        isplitr; · ipureintro; exact hW
        rw [show (K (F := F)).Otc d ((0 : Fin 1).val + 1) = 0 from Otc_one d]
        iexact HO
    isplitr; · iexact Hlev
    isplitl [Hg] <;> iassumption
  rw [regV_post, Pipeline.unscopedBufs_held]
  iintro ⟨Hb, Hbufs, HO⟩
  rw [wp_ret]
  imodintro
  iapply (StableHlo.wp_hlo_within 𝒱 (d : Thread nD τ) none Set.univ (lastOp_sub (F := F)) (V := V3 m d)) $$ [Hb Hbufs]
  · isplitl [Hb] <;> iassumption
  iintro ⟨Hb, Hbufs⟩
  rw [wp_ret]
  imodintro
  isplitl [HO Hst]
  · isplitl [HO]
    · unfold oweSt
      icases HO with ⟨%W, %hW, HO⟩
      iexists W
      isplitr; · ipureintro; exact hW
      rw [Otc_one]
      iexact HO
    iexact Hst
  isplitl [Hbufs]; · iexact Hbufs
  isplitl [Hb] <;> iassumption

/-! ## The program's run -/

omit [FloatOps F] in
/-- A held set of whole buffers, against the machine's state: each of them is what the memory holds. -/
theorem held_read (W : Valuation τ sig (Elt F)) (d : Dev nD) (s' : Phys nD τ sig (Elt F)) (b : DevRef τ sig) (hb : b ∈ Pipeline.ucRefs τ sig) :
    iprop((held (d : Thread nD τ) (Pipeline.ucRefs τ sig) W : sProp 𝕄) ∗ SI s') ⊢ (⌜s'.mem.mem (d, b) = W b⌝ : sProp 𝕄) := by
  rw [StableHlo.held_sub_split (d : Thread nD τ) (T := {b}) (Finset.singleton_subset_iff.mpr hb)]
  unfold held
  rw [bigSep_singleton]
  iintro ⟨⟨Hb, -⟩, HSI⟩
  ihave H := (SI_pointsTo_agree (st := s') (ℓ := (d, b)) (I := Finset.univ) (q := fullShare) (f := W b)) $$ [HSI Hb]
  · isplitl [HSI] <;> iassumption
  icases H with %h
  ipureintro; exact funext fun i => h i (Finset.mem_univ i)

def fq (d : Dev nD) (s' : Phys nD τ sig (Elt F)) : Prop := ∀ b ∈ Pipeline.ucRefs τ sig, s'.mem.mem (d, b) = V4 m d b

/-- What is held at the end fixes the final memory. -/
theorem hfin (d : Dev nD) (s' : Phys nD τ sig (Elt F)) : iprop(FIN m d ∗ SI s') ⊢ (⌜fq m d s'⌝ : sProp 𝕄) := by
  have h : ∀ b : DevRef τ sig, iprop(FIN m d ∗ SI s') ⊢ (⌜b ∈ Pipeline.ucRefs τ sig → s'.mem.mem (d, b) = V4 m d b⌝ : sProp 𝕄) := fun b => by
    by_cases hb : b ∈ Pipeline.ucRefs τ sig
    · exact (held_read (V4 m d) d s' b hb).trans (Laws.pure_mono fun h _ => h)
    · exact BIClass.pure_intro fun h => absurd h hb
  exact ((Laws.forall_intro h).trans Laws.pure_forall.2 :)

/-- At the end every device's unscoped buffers hold the final valuation, and every semaphore is at zero. -/
def QC : PUnit × MemSt nD τ sig (Elt F) → Prop := fun r =>
  (∀ d : Dev nD, ∀ b ∈ Pipeline.ucRefs τ sig, r.2.mem (d, b) = V4 m d b) ∧ r.2.sem = fun _ => 0

/-- The whole program runs to its end, and ends in the memory `V4`, with every semaphore at zero. -/
theorem run_main [∀ e, Nonempty (Elt F e)] (hr : InRange (nv m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tv m) (nv m)) (A := ∅) facts v₀
    (fun q hq => match q with | 0 => nomatch hq)
    (fun q _ => match q with | 0 => tileObl (tv m) (nv m) facts hr)
    (fun q _ => match q with | 0 => SparseCore.Cfg.VecSplit.of_plain (vecSplit (tv m) (nv m)))
    m ρ main (fun d => G d) (FIN m) (u₀ (F := F)) (sep_elim_left.trans (hu₀ m)) (hmain m ρ) (fq m) (hfin m) (QC m) (fun _ h hz => ⟨h, hz⟩)

end Cert.KernelIdeal.Pf

end
-- ==== Proof.KernelIdeal.Mem.lean ====
/-
  What the buffers that the two calls read hold after the host operations, as functions of the arguments: the padded
  points, the padded list of neighbours, the table of distances' coefficients, the two halves of the weights. And that the
  arguments themselves are what they were, at every stage.
-/
module

public import proofs.«01_k».proof.Proof.KernelIdeal.Run
public import Idealize.ShloMosaic.Lib.StableHlo.ReadAt

@[expose] public section

noncomputable section

namespace Cert.KernelIdeal.Pf

open Cert.KernelIdeal Cert.KernelIdeal.Gen

open Idealize.ShloMosaic
open Idealize.ShloMosaic.TcCoe Idealize.ShloMosaic.Tactic
open Idealize.SL Idealize.SL.Sem
open Idealize.ShloMosaic.StableHlo (seq after)

variable {F : FTy → Type} [FloatOps F]

variable (m : (ℓ : Loc nD τ sig) → Buf (Elt F) ℓ)

/-- The host operations leave the table as it was. -/
theorem V1_arg0 (d : Dev nD) : V1 m d main_arg0 = m (d, Proc.devRef .tc main_arg0) := by
  unfold V1 hostOps; after_reads_simp; rfl
/-- The padded list: the neighbours in row-major order, then zeros. -/
def nPad (N : S10000x32.Idx → Elt F .i32) : S323584.Idx → Elt F .i32 := fun i =>
  if h : (i 0).val / 32 < 10000 then N (ix2 ⟨(i 0).val / 32, h⟩ ⟨(i 0).val % 32, Nat.mod_lt _ (by decide)⟩) else 0#32
/-- The padded points: thirteen columns and a hundred and twelve rows of zeros. -/
def xPad (X : S10000x3.Idx → Elt F .f32) : S10112x16.Idx → Elt F .f32 :=
  pad S10112x16 ![0, 0] ![112, 13] ![0, 0] X (sitofp .f32 (constantI S_ 32 0#32) : FVec F S_ .f32) pads_S10000x3_S10112x16_01120_0130 h_S_
/-- The coefficients: rows 0 to 2 the kernel points, row 3 their squared lengths. -/
def auxOf (kp : FVec F S15x3 .f32) : FVec F S16x16 .f32 :=
  Host.scatter scatter_S16x16_S2_S15_0_0_01_0 (fun _ b => b)
    (Host.scatter scatter_S16x16_S2_S3x15_01_n_01_0 (fun _ b => b)
      (broadcastInDim S16x16 ![] bcast_S_S16x16 (constant S_ .f32 0#32))
      (catI (F := F) (broadcastInDim S1 ![] bcast_S_S1 (constantI S_ 32 0#32)) (broadcastInDim S1 ![] bcast_S_S1 (constantI S_ 32 0#32)))
      (transpose S3x15 [1, 0] kp transposes_S15x3_S3x15_1_0))
    (catI (F := F) (broadcastInDim S1 ![] bcast_S_S1 (constantI S_ 32 3#32)) (broadcastInDim S1 ![] bcast_S_S1 (constantI S_ 32 0#32)))
    (Host.reduceAdd (mulf kp kp) (constant S_ .f32 0#32) reducesTo_S15x3_S15_d1 h_S_)
/-- The weights' high halves, and both halves side by side. -/
def whiOf (W : FVec F S15x128x128 .f32) : FVec F S15x128x128 .bf16 := truncf .bf16 W bitsLt_bf16_f32
def wcatOf (W : FVec F S15x128x128 .f32) : FVec F S15x128x256 .bf16 :=
  catW (whiOf W) (truncf .bf16 (subf W (extf .f32 (whiOf W) bitsLt_bf16_f32)) bitsLt_bf16_f32)

/-- After them `main_v2` holds the padded list of neighbours, -/
theorem V1_v2 (d : Dev nD) : V1 m d main_v2 = nPad (F := F) (m (d, Proc.devRef .tc main_arg2)) := by
  unfold V1 hostOps; after_reads_at
  funext i
  have h2 : (i 0).val % 32 < 32 := Nat.mod_lt _ (by decide)
  unfold nPad
  by_cases h : (i 0).val / 32 < 10000
  · rw [dif_pos ⟨h, h2⟩, dif_pos h]; rfl
  · rw [dif_neg (fun e => h e.1), dif_neg h]; rfl
/-- `main_v0` the padded points, -/
theorem V1_v0 (d : Dev nD) : V1 m d main_v0 = xPad (F := F) (m (d, Proc.devRef .tc main_arg1)) := by
  unfold V1 hostOps; after_reads_simp; rfl
/-- `main_v14` the table of coefficients, -/
theorem V1_v14 (d : Dev nD) : V1 m d main_v14 = auxOf (F := F) (m (d, Proc.devRef .tc main_arg3)) := by
  unfold V1 hostOps; after_reads_simp; rfl
/-- `main_v15` the weights' high parts, -/
theorem V1_v15 (d : Dev nD) : V1 m d main_v15 = whiOf (F := F) (m (d, Proc.devRef .tc main_arg4)) := by
  unfold V1 hostOps; after_reads_simp; rfl
/-- and `main_v19` the concatenated high and low parts. -/
theorem V1_v19 (d : Dev nD) : V1 m d main_v19 = wcatOf (F := F) (m (d, Proc.devRef .tc main_arg4)) := by
  unfold V1 hostOps; after_reads_simp; rfl

/-- A buffer that no host operation, no call and not the last operation writes ends as it began. -/
theorem V4_ne (d : Dev nD) (r : Ref sig .tc) (h22 : r ≠ main_v22) (h21 : r ≠ main_v21) (h20 : r ≠ main_v20) : V4 m d r = V1 m d r := by
  have hd : ∀ r', r ≠ r' → Proc.devRef (τ := τ) .tc r ≠ Proc.devRef .tc r' := fun r' h e => h (Proc.devRef_injective _ e)
  unfold V4
  rw [HloOp.result_of_not_mem _ _ (by
    show _ ∉ ({Proc.devRef .tc main_v22} : Finset (DevRef τ sig))
    exact fun hm => hd _ h22 (Finset.mem_singleton.mp hm)), V3_ne m d _ (hd _ h21), V2_ne m d _ (hd _ h20)]

/-- At the end the table is as at the launch, -/
theorem V4_arg0 (d : Dev nD) : V4 m d main_arg0 = m (d, Proc.devRef .tc main_arg0) :=
  (V4_ne m d _ (by decide) (by decide) (by decide)).trans (V1_arg0 m d)
/-- and the points, -/
theorem V4_arg1 (d : Dev nD) : V4 m d main_arg1 = m (d, Proc.devRef .tc main_arg1) :=
  (V4_ne m d _ (by decide) (by decide) (by decide)).trans (by unfold V1 hostOps; after_reads_simp; rfl)
/-- and the neighbours, -/
theorem V4_arg2 (d : Dev nD) : V4 m d main_arg2 = m (d, Proc.devRef .tc main_arg2) :=
  (V4_ne m d _ (by decide) (by decide) (by decide)).trans (by unfold V1 hostOps; after_reads_simp; rfl)
/-- and the kernel points, -/
theorem V4_arg3 (d : Dev nD) : V4 m d main_arg3 = m (d, Proc.devRef .tc main_arg3) :=
  (V4_ne m d _ (by decide) (by decide) (by decide)).trans (by unfold V1 hostOps; after_reads_simp; rfl)
/-- and the weights. -/
theorem V4_arg4 (d : Dev nD) : V4 m d main_arg4 = m (d, Proc.devRef .tc main_arg4) :=
  (V4_ne m d _ (by decide) (by decide) (by decide)).trans (by unfold V1 hostOps; after_reads_simp; rfl)

/-! ## The result -/

/-- The block that grid point `t` writes, from the arguments: the body's value on the gathered rows and the padded points. -/
def blockOf (T : S10000x128.Idx → Elt F .i32) (X : S10000x3.Idx → Elt F .f32) (N : S10000x32.Idx → Elt F .i32) (kp : FVec F S15x3 .f32)
    (W : FVec F S15x128x128 .f32) (t : Fin cfg1.N) : S128x128.Idx → Elt F .f32 :=
  tcOut (fun y => gath (F := F) T (nPad (F := F) N) (gIx t y)) (fun y => xPad X (xIx t y)) (auxOf kp) (wcatOf W) (whiOf W)

/-- The whole result: row `j` from the block of its grid point. -/
def resOf (T : S10000x128.Idx → Elt F .i32) (X : S10000x3.Idx → Elt F .f32) (N : S10000x32.Idx → Elt F .i32) (kp : FVec F S15x3 .f32)
    (W : FVec F S15x128x128 .f32) : S10000x128.Idx → Elt F .f32 :=
  extractStridedSlice S10000x128 ![0, 0] (fun i : S10112x128.Idx => blockOf T X N kp W (rowPt i) (rowIn i)) slices_S10112x128_S10000x128_0_0

/-- The table that the SparseCore call reads is the argument. -/
theorem tv_eq (d : Dev nD) : tv m d = m (d, Proc.devRef .tc main_arg0) := V1_arg0 m d
/-- The list that it reads is the padded list of neighbours. -/
theorem nv_eq (d : Dev nD) : nv m d = nPad (F := F) (m (d, Proc.devRef .tc main_arg2)) := V1_v2 m d

/-- After the SparseCore call its result holds the table's rows, gathered by the padded list; -/
theorem V2_v20' (d : Dev nD) : V2 m d main_v20 = gath (F := F) (m (d, Proc.devRef .tc main_arg0)) (nPad (F := F) (m (d, Proc.devRef .tc main_arg2))) := by
  rw [V2_v20, tv_eq, nv_eq]
/-- the padded points, -/
theorem V2_v0 (d : Dev nD) : V2 m d main_v0 = xPad (F := F) (m (d, Proc.devRef .tc main_arg1)) := (V2_ne m d _ (by decide)).trans (V1_v0 m d)
/-- the table of coefficients, -/
theorem V2_v14 (d : Dev nD) : V2 m d main_v14 = auxOf (F := F) (m (d, Proc.devRef .tc main_arg3)) := (V2_ne m d _ (by decide)).trans (V1_v14 m d)
/-- the weights' high parts, -/
theorem V2_v15 (d : Dev nD) : V2 m d main_v15 = whiOf (F := F) (m (d, Proc.devRef .tc main_arg4)) := (V2_ne m d _ (by decide)).trans (V1_v15 m d)
/-- and the concatenated weights are still there. -/
theorem V2_v19 (d : Dev nD) : V2 m d main_v19 = wcatOf (F := F) (m (d, Proc.devRef .tc main_arg4)) := (V2_ne m d _ (by decide)).trans (V1_v19 m d)

/-- The TensorCore call's result, of the arguments: an element is its block's, at its place in the block. -/
theorem outArr_eq (d : Dev nD) : outArr (fun c b => V2 m c (Proc.devRef .tc b)) d = fun i : S10112x128.Idx =>
    blockOf (F := F) (m (d, Proc.devRef .tc main_arg0)) (m (d, Proc.devRef .tc main_arg1))
      (m (d, Proc.devRef .tc main_arg2)) (m (d, Proc.devRef .tc main_arg3)) (m (d, Proc.devRef .tc main_arg4)) (rowPt i) (rowIn i) := by
  funext i
  unfold outArr blockOf
  rw [outB_eq, V2_v20', V2_v0, V2_v14, V2_v15, V2_v19]

/-- At the end the result is `resOf` of the arguments. -/
theorem V4_v22 (d : Dev nD) : V4 m d main_v22 = resOf (F := F) (m (d, Proc.devRef .tc main_arg0)) (m (d, Proc.devRef .tc main_arg1))
    (m (d, Proc.devRef .tc main_arg2)) (m (d, Proc.devRef .tc main_arg3)) (m (d, Proc.devRef .tc main_arg4)) := by
  have e : V4 m d main_v22 = extractStridedSlice S10000x128 ![0, 0] (V3 m d main_v21 : S10112x128.Idx → Elt F .f32) slices_S10112x128_S10000x128_0_0 :=
    StableHlo.unary_result ..
  rw [e, V3_v21, outArr_eq]
  rfl

/-! ## The precondition and the frame -/

/-- Every neighbour's number is a row of the table. -/
def RangeN : Prop := ∀ (d : Dev nD) (j : S10000x32.Idx), (m (d, Proc.devRef .tc main_arg2) j : BitVec 32).toNat < 10000

/-- If every neighbour's number is in range, so is every word of the padded list. -/
theorem inRange_nv (h : RangeN m) : InRange (nv m) := by
  intro d j
  unfold nv
  rw [V1_v2]
  unfold nPad
  split
  · exact h d _
  · decide

/-- The run: the arguments as they were, the result `resOf` of them, every semaphore at zero. -/
theorem run_value [∀ e, Nonempty (Elt F e)] (ρ : Dev nD → PrngReg) (h : RangeN m) :
    θ_run (Cert.KernelIdeal.defs (F := F)) (Cert.KernelIdeal.threads (F := F)) ⟨m, fun _ => 0, ρ⟩ fun r =>
      (∀ c : Dev nD, r.2.mem (c, Proc.devRef .tc main_v22) = resOf (F := F) (m (c, Proc.devRef .tc main_arg0)) (m (c, Proc.devRef .tc main_arg1))
          (m (c, Proc.devRef .tc main_arg2)) (m (c, Proc.devRef .tc main_arg3)) (m (c, Proc.devRef .tc main_arg4))
        ∧ r.2.mem (c, Proc.devRef .tc main_arg0) = m (c, Proc.devRef .tc main_arg0)
        ∧ r.2.mem (c, Proc.devRef .tc main_arg1) = m (c, Proc.devRef .tc main_arg1)
        ∧ r.2.mem (c, Proc.devRef .tc main_arg2) = m (c, Proc.devRef .tc main_arg2)
        ∧ r.2.mem (c, Proc.devRef .tc main_arg3) = m (c, Proc.devRef .tc main_arg3)
        ∧ r.2.mem (c, Proc.devRef .tc main_arg4) = m (c, Proc.devRef .tc main_arg4))
      ∧ r.2.sem = fun _ => 0 :=
  (θ_run Cert.KernelIdeal.defs _ _).mono (fun r h => ⟨fun c =>
    ⟨(h.1 c _ (mem_uc main_v22 (by decide))).trans (V4_v22 m c), (h.1 c _ (mem_uc main_arg0 (by decide))).trans (V4_arg0 m c),
      (h.1 c _ (mem_uc main_arg1 (by decide))).trans (V4_arg1 m c), (h.1 c _ (mem_uc main_arg2 (by decide))).trans (V4_arg2 m c),
      (h.1 c _ (mem_uc main_arg3 (by decide))).trans (V4_arg3 m c), (h.1 c _ (mem_uc main_arg4 (by decide))).trans (V4_arg4 m c)⟩, h.2⟩)
    (run_main m ρ (inRange_nv m h))

end Cert.KernelIdeal.Pf

end
-- ==== Proof.Args.lean ====
/-
  What the buffers that the two calls read hold over the reals, element by element: the table of the distances' coefficients,
  the padded points, the two halves of the weights, the gathered words.
-/
module

public import proofs.«01_k».proof.Proof.KernelIdeal.Mem
public import Idealize.ShloMosaic.Lib.Pointwise
public import Idealize.ShloMosaic.Lib.IdealHost
public import Idealize.ShloMosaic.Lib.KernelVsHost
public import Idealize.ShloMosaic.Lib.Routing.OpsSet

@[expose] public section

noncomputable section

namespace Cert.KernelIdeal.Val

open Cert.KernelIdeal Cert.KernelIdeal.Gen Cert.KernelIdeal.Pf
open Idealize.ShloMosaic Idealize.ShloMosaic.Routing

/-! ## The coefficients -/

/-- The pair of index words `(a, b)`. -/
def pairI (a b : BitVec 32) : IVec S2 32 :=
  catI (F := Ideal) (broadcastInDim S1 ![] bcast_S_S1 (constantI S_ 32 a)) (broadcastInDim S1 ![] bcast_S_S1 (constantI S_ 32 b))
/-- Its first word, -/
theorem pairI_zero (a b : BitVec 32) (j : S2.Idx) (h : (j 0).val = 0) : pairI a b j = a := by
  have e : j = ix1 0 := funext fun x => match x with | 0 => Fin.ext h
  rw [e]
  unfold pairI catI
  pointwise
/-- and its second. -/
theorem pairI_one (a b : BitVec 32) (j : S2.Idx) (h : (j 0).val = 1) : pairI a b j = b := by
  have e : j = ix1 1 := funext fun x => match x with | 0 => Fin.ext h
  rw [e]
  unfold pairI catI
  pointwise

/-- The first scatter (the kernel points, transposed) starts at row 0, column 0, -/
theorem start1 (u : S3x15.Idx) (a : Fin 2) : scatter_S16x16_S2_S3x15_01_n_01_0.start u (pairI 0#32 0#32) a = 0 := by
  have h0 : ∀ j : S2.Idx, (pairI 0#32 0#32 j).toInt = 0 := fun j => by
    have h := (j 0).isLt
    have h : (j 0).val < 2 := h
    rcases (by omega : (j 0).val = 0 ∨ (j 0).val = 1) with h | h
    · rw [pairI_zero _ _ _ h]; decide
    · rw [pairI_one _ _ _ h]; decide
  unfold ScatterDims.start
  split
  · exact h0 _
  · rfl
/-- and an update's place in its window is its own index. -/
theorem window1 (u : S3x15.Idx) (a : Fin 2) : scatter_S16x16_S2_S3x15_01_n_01_0.window u a = (u a).val := by
  match a with
  | 0 => rfl
  | 1 => rfl
/-- The second scatter (the squares) starts at row 3, -/
theorem start2_0 (u : S15.Idx) : scatter_S16x16_S2_S15_0_0_01_0.start u (pairI 3#32 0#32) 0 = 3 := by
  unfold ScatterDims.start
  rw [dif_pos (by decide), pairI_zero _ _ _ rfl]
  decide
/-- column 0; -/
theorem start2_1 (u : S15.Idx) : scatter_S16x16_S2_S15_0_0_01_0.start u (pairI 3#32 0#32) 1 = 0 := by
  unfold ScatterDims.start
  rw [dif_pos (by decide), pairI_one _ _ _ rfl]
  decide
/-- its window is one row high, -/
theorem window2_0 (u : S15.Idx) : scatter_S16x16_S2_S15_0_0_01_0.window u 0 = 0 := rfl
/-- and an update's column its own index. -/
theorem window2_1 (u : S15.Idx) : scatter_S16x16_S2_S15_0_0_01_0.window u 1 = (u 0).val := rfl

/-- Rows 0 to 2 of the table of coefficients hold the kernel points' coordinates. -/
theorem aux_point (kp : FVec Ideal S15x3 .f32) (c : Fin 3) (k : Fin 15) :
    auxOf kp (ix2 ⟨c.val, by omega⟩ ⟨k.val, by omega⟩) = kp (ix2 k c) := by
  unfold auxOf
  refine (scatter_set_miss scatter_S16x16_S2_S15_0_0_01_0 _ (pairI 3#32 0#32) _ _ fun u hu => ?_).trans ?_
  · have h := (resultIdx?_eq_some _ _ _ _).1 hu 0
    rw [start2_0, window2_0] at h
    have h : (3 : ℤ) + ((0 : ℕ) : ℤ) = (c.val : ℤ) := h
    omega
  · refine scatter_set_hit scatter_S16x16_S2_S3x15_01_n_01_0 _ (pairI 0#32 0#32) _ _ _ (fun u hu => ?_) (ix2 c k) ((resultIdx?_eq_some _ _ _ _).2 fun a => ?_)
    · have h := (resultIdx?_eq_some _ _ _ _).1 hu
      have h0 := h 0
      have h1 := h 1
      rw [start1, window1] at h0 h1
      have h0 : (0 : ℤ) + ((u 0).val : ℤ) = (c.val : ℤ) := h0
      have h1 : (0 : ℤ) + ((u 1).val : ℤ) = (k.val : ℤ) := h1
      have e : u = ix2 c k := funext fun a => Fin.ext (match a with | 0 => by show (u 0).val = c.val; omega | 1 => by show (u 1).val = k.val; omega)
      rw [e]
      pointwise
    · rw [start1, window1, zero_add]
      match a with
      | 0 => rfl
      | 1 => rfl

/-- Its row 3 holds their squares. -/
theorem aux_square (kp : FVec Ideal S15x3 .f32) (k : Fin 15) :
    auxOf kp (ix2 3 ⟨k.val, by omega⟩) = ∑ c : Fin 3, kp (ix2 k c) * kp (ix2 k c) := by
  unfold auxOf
  refine scatter_set_hit scatter_S16x16_S2_S15_0_0_01_0 _ (pairI 3#32 0#32) _ _ _ (fun u hu => ?_) (ix1 k) ((resultIdx?_eq_some _ _ _ _).2 fun a => ?_)
  · have h1 := (resultIdx?_eq_some _ _ _ _).1 hu 1
    rw [start2_1, window2_1] at h1
    have h1 : (0 : ℤ) + ((u 0).val : ℤ) = (k.val : ℤ) := h1
    have e : u = ix1 k := funext fun a => Fin.ext (match a with | 0 => by show (u 0).val = k.val; omega)
    rw [e]
    pointwise
  · match a with
    | 0 => rw [start2_0, window2_0]; rfl
    | 1 => rw [start2_1, window2_1, zero_add]; rfl

/-! ## The weights and the points -/

/-- The first 128 columns of the concatenated weights are the weights. -/
theorem wcat_low (W : FVec Ideal S15x128x128 .f32) (k : Fin 15) (d e : Fin 128) :
    wcatOf W (ix3 k d ⟨e.val, by omega⟩) = W (ix3 k d e) := by
  unfold wcatOf whiOf catW
  pointwise
/-- The last 128 columns, the weights' rounding remainders, are 0 over the reals where the weight is finite. -/
theorem wcat_high (W : FVec Ideal S15x128x128 .f32) (k : Fin 15) (d e : Fin 128) (h : W (ix3 k d e) ≠ (⊤ : EReal) ∧ W (ix3 k d e) ≠ (⊥ : EReal)) :
    wcatOf W (ix3 k d ⟨128 + e.val, by omega⟩) = (0 : EReal) := by
  unfold wcatOf whiOf catW
  pointwise
  exact EReal.sub_self h.1 h.2

/-- The padded points' first three lanes are the points, -/
theorem x_low (X : FVec Ideal S10000x3 .f32) (r : Fin 10112) (hr : r.val < 10000) (c : Fin 3) :
    xPad (F := Ideal) X (ix2 r ⟨c.val, by omega⟩) = X (ix2 ⟨r.val, hr⟩ c) := by
  unfold xPad
  pointwise
  exact dif_pos hr
/-- and the other thirteen are 0. -/
theorem x_high (X : FVec Ideal S10000x3 .f32) (r : Fin 10112) (c : Fin 13) :
    xPad (F := Ideal) X (ix2 r ⟨3 + c.val, by omega⟩) = (0 : EReal) := by
  unfold xPad
  pointwise
  rw [dif_neg (fun h => h.2)]
  show (((0#32 : BitVec 32).toInt : ℝ) : EReal) = 0
  simp

/-- Row `p` of block `t` of the points is row `128 t + p`. -/
theorem xIx_eq (t : Fin cfg1.N) (p : Fin 128) (c : Fin 16) :
    xIx t (ix2 p c) = ix2 ⟨t.val * 128 + p.val, by have h : t.val < 79 := t.isLt; omega⟩ c := by
  funext a
  match a with
  | 0 => rfl
  | 1 => rfl

/-! ## The gathered words -/

/-- Row `32 p + j` of block `t` of the gathered rows: neighbour `j` of query point `128 t + p`. -/
theorem gath_at (T : S10000x128.Idx → BitVec 32) (N : S10000x32.Idx → BitVec 32) (t : Fin cfg1.N) (p : Fin 128) (j : Fin 32) (d : Fin 128)
    (hn : t.val * 128 + p.val < 10000) (hN : (N (ix2 ⟨t.val * 128 + p.val, hn⟩ j)).toNat < 10000) :
    gath (F := Ideal) T (nPad (F := Ideal) N) (gIx t (ix2 (⟨p.val * 32 + j.val, by omega⟩ : Fin 4096) d))
      = T (ix2 ⟨(N (ix2 ⟨t.val * 128 + p.val, hn⟩ j)).toNat, hN⟩ d) := by
  have e : nPad (F := Ideal) N (ixN (gIx t (ix2 (⟨p.val * 32 + j.val, by omega⟩ : Fin 4096) d) 0)) = N (ix2 ⟨t.val * 128 + p.val, hn⟩ j) := by
    unfold nPad
    have e1 : ((ixN (gIx t (ix2 (⟨p.val * 32 + j.val, by omega⟩ : Fin 4096) d) 0)) 0).val = (t.val * 128 + p.val) * 32 + j.val := by
      show t.val * 4096 + (p.val * 32 + j.val) = _
      omega
    simp only [e1]
    have e2 : ((t.val * 128 + p.val) * 32 + j.val) / 32 = t.val * 128 + p.val := by omega
    have e3 : ((t.val * 128 + p.val) * 32 + j.val) % 32 = j.val := by omega
    simp only [e2, e3]
    exact dif_pos hn
  unfold gath
  simp only [e]
  refine congrArg T (funext fun a => Fin.ext ?_)
  match a with
  | 0 => show min (N (ix2 ⟨t.val * 128 + p.val, hn⟩ j)).toNat 9999 = _; exact min_eq_left (by omega)
  | 1 => rfl

end Cert.KernelIdeal.Val
end
-- ==== Proof.RefValue.lean ====
/-
  The reference's result over the reals, element by element.
-/
module

public import proofs.«01_k».proof.Proof.Gen.ReferenceIdeal.Run
public import proofs.«01_k».proof.Proof.Halves
public import proofs.«01_k».proof.Proof.Finite
public import Idealize.ShloMosaic.Lib.Pointwise
public import Idealize.ShloMosaic.Lib.IdealHost
public import Idealize.ShloMosaic.Lib.Routing.OpsPair

@[expose] public section

noncomputable section

namespace Cert.ReferenceIdeal.Val

open Cert.ReferenceIdeal Cert.ReferenceIdeal.Gen Cert.ReferenceIdeal.Value
open Idealize.ShloMosaic

/-- A gather of whole rows of a table of three columns at an array of row numbers, each in the table. -/
theorem gather3 {α : Type} (x : S10000x3.Idx → α) (idx : IVec S10000x32x1 32) (n : Fin 10000) (j : Fin 32) (c : Fin 3)
    (r : Fin 10000) (h : (idx (ix3 n j 0)).toNat = r.val) :
    Host.gather gather_S10000x3_S10000x32x1_S10000x32x3_2_0_n_n_0_2_13 x idx (ix3 n j c) = x (ix2 r c) := by
  unfold Host.gather
  refine congrArg x (funext fun a => Fin.ext ?_)
  have hi : (idx (ix3 n j 0)).toInt.toNat = r.val := by
    have := r.isLt
    rw [BitVec.toInt_eq_toNat_of_lt (by omega), h]; rfl
  show GatherDims.start _ _ idx a + GatherDims.batchCoord _ _ a + GatherDims.offCoord _ _ a = _
  match a with
  | 0 =>
    have e : GatherDims.start gather_S10000x3_S10000x32x1_S10000x32x3_2_0_n_n_0_2_13 (ix3 n j c) idx 0 = min (idx (ix3 n j 0)).toInt.toNat 9999 := by
      unfold GatherDims.start
      rw [dif_pos (by decide)]
      congr 3
      congr 1
      funext b
      match b with
      | 0 => rfl
      | 1 => rfl
      | 2 => rfl
    show GatherDims.start _ _ idx 0 + 0 + 0 = r.val
    rw [e, hi]
    omega
  | 1 => show 0 + 0 + c.val = c.val; omega

/-- A gather of whole rows of a table of 128 columns at an array of row numbers, each in the table. -/
theorem gather128 {α : Type} (x : S10000x128.Idx → α) (idx : IVec S10000x32x1 32) (n : Fin 10000) (j : Fin 32) (c : Fin 128)
    (r : Fin 10000) (h : (idx (ix3 n j 0)).toNat = r.val) :
    Host.gather gather_S10000x128_S10000x32x1_S10000x32x128_2_0_n_n_0_2_1128 x idx (ix3 n j c) = x (ix2 r c) := by
  unfold Host.gather
  refine congrArg x (funext fun a => Fin.ext ?_)
  have hi : (idx (ix3 n j 0)).toInt.toNat = r.val := by
    have := r.isLt
    rw [BitVec.toInt_eq_toNat_of_lt (by omega), h]; rfl
  show GatherDims.start _ _ idx a + GatherDims.batchCoord _ _ a + GatherDims.offCoord _ _ a = _
  match a with
  | 0 =>
    have e : GatherDims.start gather_S10000x128_S10000x32x1_S10000x32x128_2_0_n_n_0_2_1128 (ix3 n j c) idx 0 = min (idx (ix3 n j 0)).toInt.toNat 9999 := by
      unfold GatherDims.start
      rw [dif_pos (by decide)]
      congr 3
      congr 1
      funext b
      match b with
      | 0 => rfl
      | 1 => rfl
      | 2 => rfl
    show GatherDims.start _ _ idx 0 + 0 + 0 = r.val
    rw [e, hi]
    omega
  | 1 => show 0 + 0 + c.val = c.val; omega

/-! ## The reference's stages, as functions of its arguments -/

/-- The neighbours' numbers as the gathers take them. -/
def refIdx (N : IVec S10000x32 32) : IVec S10000x32x1 32 :=
  broadcastInDim S10000x32x1 ![0, 1] bcast_S10000x32_S10000x32x1_0_1 (select (cmpi .slt N (broadcastInDim S10000x32 ![] bcast_S_S10000x32 (constantI S_ 32 0#32))) (addi N (broadcastInDim S10000x32 ![] bcast_S_S10000x32 (constantI S_ 32 10000#32))) N)
/-- The points that the table holds, and the features that it holds. -/
def refPts (T : IVec S10000x128 32) : FVec Ideal S10000x3 .f32 :=
  addf (extractStridedSlice S10000x3 ![0, 0] (extf .f32 (bitcastToFloat (F := Ideal) .bf16 (trunci 16 T natLt_16_32)) bitsLt_bf16_f32) slices_S10000x128_S10000x3_0_0) (extractStridedSlice S10000x3 ![0, 3] (extf .f32 (bitcastToFloat (F := Ideal) .bf16 (trunci 16 T natLt_16_32)) bitsLt_bf16_f32) slices_S10000x128_S10000x3_0_3)
def refFeats (T : IVec S10000x128 32) : FVec Ideal S10000x128 .f32 :=
  extf .f32 (bitcastToFloat (F := Ideal) .bf16 (trunci 16 (Host.shrui T (broadcastInDim S10000x128 ![] bcast_S_S10000x128 (constantI S_ 32 16#32))) natLt_16_32)) bitsLt_bf16_f32
/-- The neighbours' points, and their features. -/
def refNear (T : IVec S10000x128 32) (N : IVec S10000x32 32) : FVec Ideal S10000x32x3 .f32 :=
  Host.gather gather_S10000x3_S10000x32x1_S10000x32x3_2_0_n_n_0_2_13 (refPts T) (refIdx N)
def refFar (T : IVec S10000x128 32) (N : IVec S10000x32 32) : FVec Ideal S10000x32x128 .f32 :=
  Host.gather gather_S10000x128_S10000x32x1_S10000x32x128_2_0_n_n_0_2_1128 (refFeats T) (refIdx N)
/-- A neighbour's point relative to the query point and a kernel point. -/
def refDiff (G : FVec Ideal S10000x32x3 .f32) (X : FVec Ideal S10000x3 .f32) (kp : FVec Ideal S15x3 .f32) : FVec Ideal S10000x32x15x3 .f32 :=
  subf (broadcastInDim S10000x32x15x3 ![0, 1, 2, 3] bcast_S10000x32x1x3_S10000x32x15x3_0_1_2_3 (broadcastInDim S10000x32x1x3 ![0, 1, 3] bcast_S10000x32x3_S10000x32x1x3_0_1_3 (subf G (broadcastInDim S10000x32x3 ![0, 1, 2] bcast_S10000x1x3_S10000x32x3_0_1_2 (broadcastInDim S10000x1x3 ![0, 2] bcast_S10000x3_S10000x1x3_0_2 X))))) (broadcastInDim S10000x32x15x3 ![0, 1, 2, 3] bcast_S1x1x15x3_S10000x32x15x3_0_1_2_3 (broadcastInDim S1x1x15x3 ![2, 3] bcast_S15x3_S1x1x15x3_2_3 kp))
/-- The weights of a neighbour at the kernel points. -/
def refH (D : FVec Ideal S10000x32x15x3 .f32) : FVec Ideal S10000x32x15 .f32 :=
  maximumf (broadcastInDim S10000x32x15 ![] bcast_S_S10000x32x15 (constant S_ .f32 0x00000000#32)) (subf (broadcastInDim S10000x32x15 ![] bcast_S_S10000x32x15 (constant S_ .f32 0x3F800000#32)) (Host.divf (Host.sqrt (addf (Host.reduceAdd (mulf D D) (constant S_ .f32 0x00000000#32) reducesTo_S10000x32x15x3_S10000x32x15_d3 h_S_) (broadcastInDim S10000x32x15 ![] bcast_S_S10000x32x15 (constant S_ .f32 0x2B8CBCCC#32)))) (broadcastInDim S10000x32x15 ![] bcast_S_S10000x32x15 (constant S_ .f32 0x3F800000#32))))
/-- The result. -/
def refOut (H : FVec Ideal S10000x32x15 .f32) (G : FVec Ideal S10000x32x128 .f32) (W : FVec Ideal S15x128x128 .f32) : FVec Ideal S10000x128 .f32 :=
  Host.dotGeneral dot_S10000x15x128_S15x128x128_S10000x128_21_10_0_2_n_n none (Host.dotGeneral dot_S10000x32x15_S10000x32x128_S10000x15x128_1_1_2_2_0_0 none H G) W

/-- The reference's term is these stages, one after the other. -/
theorem res_eq (m : (ℓ : Loc nD τ sig) → Buf (Elt Ideal) ℓ) (c : Dev nD) :
    res_main_v45 m c = refOut (refH (refDiff (refNear (m ((c.tc : Thread nD τ).loc main_arg0)) (m ((c.tc : Thread nD τ).loc main_arg2))) (m ((c.tc : Thread nD τ).loc main_arg1)) (m ((c.tc : Thread nD τ).loc main_arg3))))
      (refFar (m ((c.tc : Thread nD τ).loc main_arg0)) (m ((c.tc : Thread nD τ).loc main_arg2))) (m ((c.tc : Thread nD τ).loc main_arg4)) := rfl

/-! ## Each stage read at an index -/

/-- The row that the reference reads for neighbour `j` of point `n` is the neighbour's number. -/
theorem idx_at (N : IVec S10000x32 32) (n : Fin 10000) (j : Fin 32) (h : (N (ix2 n j)).toNat < 10000) : refIdx N (ix3 n j 0) = N (ix2 n j) := by
  unfold refIdx
  pointwise
  exact Routing.wrap_of_lt _ _ (by omega)

/-- Its coordinate `c`: the sum of the low halves of that row's columns `c` and `3 + c`. -/
theorem near_at (T : IVec S10000x128 32) (N : IVec S10000x32 32) (n : Fin 10000) (j : Fin 32) (c : Fin 3) (h : (N (ix2 n j)).toNat < 10000) :
    refNear T N (ix3 n j c) = Cert.Proof.loV (T (ix2 ⟨(N (ix2 n j)).toNat, h⟩ ⟨c.val, by omega⟩)) + Cert.Proof.loV (T (ix2 ⟨(N (ix2 n j)).toNat, h⟩ ⟨3 + c.val, by omega⟩)) := by
  unfold refNear
  rw [gather3 _ _ n j c ⟨(N (ix2 n j)).toNat, h⟩ (by rw [idx_at N n j h])]
  unfold refPts
  pointwise
  rfl

/-- Its feature `d`: the high half of that row's column `d`. -/
theorem far_at (T : IVec S10000x128 32) (N : IVec S10000x32 32) (n : Fin 10000) (j : Fin 32) (d : Fin 128) (h : (N (ix2 n j)).toNat < 10000) :
    refFar T N (ix3 n j d) = Cert.Proof.hiV (T (ix2 ⟨(N (ix2 n j)).toNat, h⟩ d)) := by
  unfold refFar
  rw [gather128 _ _ n j d ⟨(N (ix2 n j)).toNat, h⟩ (by rw [idx_at N n j h])]
  unfold refFeats Cert.Proof.hiV
  pointwise
  rw [Cert.Proof.host_shr]

/-- The neighbour's coordinate, less the point's, less the kernel point's. -/
theorem diff_at (G : FVec Ideal S10000x32x3 .f32) (X : FVec Ideal S10000x3 .f32) (kp : FVec Ideal S15x3 .f32) (n : Fin 10000) (j : Fin 32) (k : Fin 15) (c : Fin 3) :
    refDiff G X kp (ix4 n j k c) = (G (ix3 n j c) - X (ix2 n c) - kp (ix2 k c) : EReal) := by
  unfold refDiff
  pointwise

/-- The influence: 1 less the distance, cut at 0. -/
theorem h_at (D : FVec Ideal S10000x32x15x3 .f32) (n : Fin 10000) (j : Fin 32) (k : Fin 15) :
    refH D (ix3 n j k) = max 0 (1 - Ideal.div (Ideal.sqrt ((∑ c : Fin 3, D (ix4 n j k c) * D (ix4 n j k c)) + Ideal.ofBits .f32 0x2B8CBCCC#32)) 1) := by
  unfold refH
  pointwise

/-- The result: over kernel points and features, the features weighted by the influences of the neighbours, times the weight. -/
theorem out_at (H : FVec Ideal S10000x32x15 .f32) (G : FVec Ideal S10000x32x128 .f32) (W : FVec Ideal S15x128x128 .f32) (n : Fin 10000) (e : Fin 128) :
    refOut H G W (ix2 n e) = ∑ k : Fin 15, ∑ d : Fin 128, (∑ j : Fin 32, H (ix3 n j k) * G (ix3 n j d)) * W (ix3 k d e) := by
  unfold refOut
  pointwise
  exact Finset.sum_comm

end Cert.ReferenceIdeal.Val
end
-- ==== Proof.Equal.lean ====
/-
  The kernel's result is the reference's over the reals, where every value read is finite: element by element, both are the
  sum over the kernel points and the features of the weighted feature times the weight.
-/
module

public import proofs.«01_k».proof.Proof.Block
public import proofs.«01_k».proof.Proof.Args
public import proofs.«01_k».proof.Proof.RefValue
public import proofs.«01_k».proof.Proof.Finite

@[expose] public section

noncomputable section

namespace Cert.Proof

open Idealize.ShloMosaic
open Cert.KernelIdeal (S10000x128 S10000x3 S10000x32 S15x3 S15x128x128)
open Cert.KernelIdeal.Pf Cert.KernelIdeal.Val Cert.ReferenceIdeal.Val

/-! ## Reals among the extended reals -/

/-- A sum of reals, read among the extended reals, is the sum of the summands so read. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The weight of a neighbour at distance `r`. -/
theorem weight_coe (r : ℝ) : max 0 (1 - Ideal.div (r : EReal) 1) = ((max 0 (1 - r) : ℝ) : EReal) := by
  have e : Ideal.div (r : EReal) 1 = (r : EReal) := by
    rw [show (1 : EReal) = ((1 : ℝ) : EReal) from rfl, Ideal.div_coe one_ne_zero]
    simp
  rw [e, EReal.coe_strictMono.monotone.map_max]
  rfl

/-- An extended real that is not infinite is its real part. -/
theorem coe_of_finite {x : EReal} (h : x ≠ ⊤ ∧ x ≠ ⊥) : x = (x.toReal : EReal) := (EReal.coe_toReal h.1 h.2).symm

section
variable (T : S10000x128.Idx → BitVec 32) (X : FVec Ideal S10000x3 .f32) (N : S10000x32.Idx → BitVec 32) (kp : FVec Ideal S15x3 .f32) (W : FVec Ideal S15x128x128 .f32)

/-! ## The formula -/

/-- Coordinate `c` of the point that row `r` of the table holds. -/
def ptV (r : Fin 10000) (c : Fin 3) : ℝ := (loV (T (ix2 r ⟨c.val, by omega⟩))).toReal + (loV (T (ix2 r ⟨3 + c.val, by omega⟩))).toReal
/-- The distance of the point in row `r`, relative to query point `n`, from kernel point `k`. -/
def distV (r n : Fin 10000) (k : Fin 15) : ℝ :=
  Real.sqrt ((∑ c : Fin 3, (ptV T r c - (X (ix2 n c) : EReal).toReal - (kp (ix2 k c) : EReal).toReal) * (ptV T r c - (X (ix2 n c) : EReal).toReal - (kp (ix2 k c) : EReal).toReal)) + eps)
/-- Feature `d` weighted for kernel point `k` and summed over the neighbours, whose rows are `r`. -/
def wtV (r : Fin 32 → Fin 10000) (n : Fin 10000) (k : Fin 15) (d : Fin 128) : ℝ :=
  ∑ j : Fin 32, max 0 (1 - distV T X kp (r j) n k) * (hiV (T (ix2 (r j) d))).toReal

variable (hf : Finite T X N kp W)
include hf

/-- The two low halves of a row's columns `c` and `3 + c` add up to the row's point's coordinate. -/
theorem pt_eq (r : Fin 10000) (c : Fin 3) : loV (T (ix2 r ⟨c.val, by omega⟩)) + loV (T (ix2 r ⟨3 + c.val, by omega⟩)) = (ptV T r c : EReal) := by
  have h1 := hf.lo (ix2 r ⟨c.val, by omega⟩) (by show c.val < 6; omega)
  have h2 := hf.lo (ix2 r ⟨3 + c.val, by omega⟩) (by show 3 + c.val < 6; omega)
  rw [coe_of_finite h1, coe_of_finite h2]
  rfl

/-! ## The reference -/

/-- The reference's result at point `n`, feature `e`: over the kernel points and the features, the sum of the weighted feature times the weight. -/
theorem ref_value (n : Fin 10000) (e : Fin 128) :
    refOut (refH (refDiff (refNear T N) X kp)) (refFar T N) W (ix2 n e)
      = ∑ k : Fin 15, ∑ d : Fin 128, (wtV T X kp (fun j => ⟨(N (ix2 n j)).toNat, hf.range _⟩) n k d : EReal) * W (ix3 k d e) := by
  rw [out_at]
  refine Finset.sum_congr rfl fun k _ => Finset.sum_congr rfl fun d _ => congrArg (· * W (ix3 k d e)) ?_
  unfold wtV
  rw [coe_sum]
  refine Finset.sum_congr rfl fun j _ => ?_
  rw [h_at, far_at T N n j d (hf.range _), EReal.coe_mul, ← weight_coe, ← coe_of_finite (hf.hi _)]
  have hd : ∀ c : Fin 3, refDiff (refNear T N) X kp (ix4 n j k c)
      = ((ptV T ⟨(N (ix2 n j)).toNat, hf.range _⟩ c - (X (ix2 n c) : EReal).toReal - (kp (ix2 k c) : EReal).toReal : ℝ) : EReal) := fun c => by
    rw [diff_at, near_at T N n j c (hf.range _), pt_eq T X N kp W hf, EReal.coe_sub, EReal.coe_sub, ← coe_of_finite (hf.x _), ← coe_of_finite (hf.kp _)]
  simp only [hd]
  unfold distV
  simp only [← EReal.coe_mul]
  rw [← coe_sum, eps_eq, ← EReal.coe_add, Ideal.sqrt_coe,
    if_neg (not_lt.mpr (add_nonneg (Finset.sum_nonneg fun c _ => mul_self_nonneg _) eps_nonneg))]

/-! ## The kernel -/

/-- The kernel's result is the same sum: at place `p` of block `t`, for the point `n` that stands there. -/
theorem block_value (t : Fin Cert.KernelIdeal.cfg1.N) (p : Fin 128) (e : Fin 128) (n : Fin 10000) (hn : t.val * 128 + p.val = n.val) :
    blockOf (F := Ideal) T X N kp W t (ix2 p e)
      = ∑ k : Fin 15, ∑ d : Fin 128, (wtV T X kp (fun j => ⟨(N (ix2 n j)).toNat, hf.range _⟩) n k d : EReal) * W (ix3 k d e) := by
  obtain ⟨n, hlt⟩ := n
  obtain rfl : t.val * 128 + p.val = n := hn
  unfold blockOf tcOut
  set x1 : Cert.KernelIdeal.S4096x128.Idx → BitVec 32 := fun y => gath (F := Ideal) T (nPad (F := Ideal) N) (gIx t y) with hx1
  have g : ∀ (j : Fin 32) (d : Fin 128), x1 (ix2 (row p j) d) = T (ix2 ⟨(N (ix2 ⟨t.val * 128 + p.val, hlt⟩ j)).toNat, hf.range _⟩ d) :=
    fun j d => gath_at T N t p j d hlt (hf.range _)
  have hd : ∀ (j : Fin 32) (k : Fin 15), tcDist (F := Ideal) x1 (fun y => xPad (F := Ideal) X (xIx t y)) (auxOf kp) (ix2 (row p j) k)
      = (distV T X kp ⟨(N (ix2 ⟨t.val * 128 + p.val, hlt⟩ j)).toNat, hf.range _⟩ ⟨t.val * 128 + p.val, hlt⟩ k : EReal) := fun j k => by
    unfold distV
    refine dist_at x1 _ _ p j k (fun c => ptV T ⟨(N (ix2 ⟨t.val * 128 + p.val, hlt⟩ j)).toNat, hf.range _⟩ c)
      (fun c => (X (ix2 ⟨t.val * 128 + p.val, hlt⟩ c) : EReal).toReal) (fun c => (kp (ix2 k c) : EReal).toReal)
      (fun c => ?_) (fun c => ?_) (fun c => ?_) (fun c => ?_) ?_
    · rw [g, g]
      exact pt_eq T X N kp W hf _ c
    · rw [← coe_of_finite (hf.x _)]
      exact (congrArg _ (Cert.KernelIdeal.Val.xIx_eq t p _)).trans (x_low X _ hlt c)
    · exact (congrArg _ (Cert.KernelIdeal.Val.xIx_eq t p _)).trans (x_high X _ c)
    · rw [← coe_of_finite (hf.kp _)]
      exact aux_point kp c k
    · rw [coe_sum]
      refine (aux_square kp k).trans (Finset.sum_congr rfl fun c _ => ?_)
      rw [EReal.coe_mul, ← coe_of_finite (hf.kp _)]
  refine (sum_at _ _ _ _ p e (fun k d => wtV T X kp (fun j => ⟨(N (ix2 ⟨t.val * 128 + p.val, hlt⟩ j)).toNat, hf.range _⟩) ⟨t.val * 128 + p.val, hlt⟩ k d)
    (fun k d => ?_) (fun k d => wcat_high W k d e (hf.w _))).trans ?_
  · rw [pay5_at]
    unfold wtV
    rw [coe_sum]
    refine Finset.sum_congr rfl fun j _ => ?_
    rw [hd, weight_coe, feat_at, g, EReal.coe_mul, ← coe_of_finite (hf.hi _)]
  · simp only [wcat_low]

/-- So the kernel's result and the reference's are one function of the arguments, where these are finite and the neighbours in range. -/
theorem value_eq : resOf (F := Ideal) T X N kp W = refOut (refH (refDiff (refNear T N) X kp)) (refFar T N) W := by
  funext i
  rw [Idealize.ShloMosaic.eq_ix2 i]
  generalize (i 0 : Fin 10000) = n
  generalize (i 1 : Fin 128) = e
  rw [ref_value T X N kp W hf n e]
  have hn : n.val < 10000 := n.isLt
  have hN : n.val / 128 < Cert.KernelIdeal.cfg1.N := by show _ < 79; omega
  refine Eq.trans ?_ (block_value T X N kp W hf ⟨n.val / 128, hN⟩ ⟨n.val % 128, Nat.mod_lt _ (by decide)⟩ e n (by show n.val / 128 * 128 + n.val % 128 = n.val; omega))
  unfold resOf
  pointwise
  refine congrArg _ (funext fun a => ?_)
  match a with
  | 0 => rfl
  | 1 => rfl

end

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Range
public import proofs.«01_k».proof.Proof.Finite
public import proofs.«01_k».proof.Proof.Equal
public import proofs.«01_k».proof.Proof.Kernel.Mem
public import proofs.«01_k».proof.Proof.KernelIdeal.Mem
public import Idealize.ShloMosaic.PureOps.BitExact
public import Idealize.ShloMosaic.Lib.Quiescent

@[expose] public section

noncomputable section

namespace Cert.Proof

open Idealize.ShloMosaic Idealize.SL.Sem

/-- The kernel, as printed, ends with its arguments unchanged and every counter at zero. -/
theorem frame_kernel : Cert.quiescent_Kernel := fun m g hp =>
  (θ_run (Cert.Kernel.defs (F := Bits)) _ _).mono (fun _ h => ⟨fun c => (h.1 c).2, h.2⟩)
    (Cert.Kernel.Pf.run_value m g (fun d j => pre_range _ _ _ _ _ (hp d) j))
/-- So does the kernel read over the reals. -/
theorem frame_ideal : Cert.quiescent_KernelIdeal := fun m g hp =>
  (θ_run (Cert.KernelIdeal.defs (F := Ideal)) _ _).mono (fun _ h => ⟨fun c => (h.1 c).2, h.2⟩)
    (Cert.KernelIdeal.Pf.run_value m g (fun d j => pre_range _ _ _ _ _ (hp d) j))
/-- So does the reference. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run m g)

/-- The kernel's frame again, on the smaller set of memories that the equation speaks of. -/
theorem frame_ideal_finite : Cert.quiescent_KernelIdeal_pre_in_range_finite := fun m g hp =>
  (θ_run (Cert.KernelIdeal.defs (F := Ideal)) _ _).mono (fun _ h => ⟨fun c => (h.1 c).2, h.2⟩)
    (Cert.KernelIdeal.Pf.run_value m g (fun d j => (pre_finite _ _ _ _ _ (hp d)).range j))
/-- And the reference's. -/
theorem frame_reference_finite : Cert.quiescent_ReferenceIdeal_pre_in_range_finite := fun m g _ =>
  (θ_run (Cert.ReferenceIdeal.defs (F := Ideal)) _ _).mono (fun r h => ⟨fun c => (h c).2, sem_eq_zero_of_no_sems (by decide) r.2⟩)
    (Cert.ReferenceIdeal.Value.run m g)

/-- From the same arguments, the kernel and the reference end with the same result over the reals. -/
theorem equal : Cert.algebraic_KernelIdeal_ReferenceIdeal_pre_in_range_finite := fun m g m' g' hp hm => by
  refine ⟨fun c => Cert.ReferenceIdeal.Value.res_main_v45 m' c, ?_, ?_⟩
  · refine (θ_run (Cert.KernelIdeal.defs (F := Ideal)) _ _).mono (fun r h c => ⟨(h.1 c).1.trans ?_, (h.1 c).2⟩)
      (Cert.KernelIdeal.Pf.run_value m g (fun d j => (pre_finite _ _ _ _ _ (hp d)).range j))
    obtain ⟨e0, e1, e2, e3, e4⟩ := hm c
    refine Eq.trans (value_eq _ _ _ _ _ (pre_finite _ _ _ _ _ (hp c))) (Eq.trans ?_ (Cert.ReferenceIdeal.Val.res_eq m' c).symm)
    rw [e0, e1, e2, e3, e4]
  · exact (θ_run (Cert.ReferenceIdeal.defs (F := Ideal)) _ _).mono (fun _ h => h) (Cert.ReferenceIdeal.Value.run m' g')

/-- All the claims. -/
theorem claim : Cert.Claim := ⟨Cert.Kernel.Gen.facts, Cert.KernelIdeal.Gen.facts, Cert.ReferenceIdeal.Gen.facts, Cert.Pre_in_range.Gen.facts,
  Cert.Pre_in_range_finite.Gen.facts, frame_kernel, frame_ideal, frame_ideal_finite, frame_reference, frame_reference_finite, trivial, equal⟩

end Cert.Proof

end
